-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 8192]⟩ ⟨2, ![4096, 8192]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S2048x8192 : Shape := ⟨2, ![2048, 8192]⟩
abbrev S4096x256 : Shape := ⟨2, ![4096, 256]⟩
abbrev S2048x256 : Shape := ⟨2, ![2048, 256]⟩
abbrev S2x2048x256 : Shape := ⟨3, ![2, 2048, 256]⟩
abbrev S4x2048x256 : Shape := ⟨3, ![4, 2048, 256]⟩
abbrev S2 : Shape := ⟨1, ![2]⟩
abbrev S4 : Shape := ⟨1, ![4]⟩
abbrev S_ : Shape := ⟨0, ![]⟩
abbrev S1 : Shape := ⟨1, ![1]⟩
abbrev S1x2048x256 : Shape := ⟨3, ![1, 2048, 256]⟩
abbrev S4096x2048 : Shape := ⟨2, ![4096, 2048]⟩

abbrev nBuf : Space → Nat
  | .hbm => 3
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S2048x8192, .f32⟩
  | .local _ .vmem, ⟨0, _⟩ => ⟨S4096x4096, .bf16⟩
  | .local _ .vmem, ⟨1, _⟩ => ⟨S4096x256, .bf16⟩
  | .local _ .vmem, ⟨2, _⟩ => ⟨S4096x256, .bf16⟩
  | .local _ .vmem, ⟨3, _⟩ => ⟨S2048x256, .f32⟩
  | .local _ .vmem, ⟨4, _⟩ => ⟨S2048x256, .f32⟩
  | .local _ .vmem, ⟨5, _⟩ => ⟨S2x2048x256, .bf16⟩
  | .local _ .vmem, ⟨6, _⟩ => ⟨S4x2048x256, .bf16⟩
  | .local _ .vmem, ⟨7, _⟩ => ⟨S2x2048x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 32
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_3 : BitVec 32 := 0#32
  let v12 : BitVec 1 := Scalar.cmpi .ne v11 c0_i32_3
  v12

def k0_dev1 (d0 : Dev nD) : Nat :=
  let c0_i32_13 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_12 : BitVec 32 := 16#32
  let v25 : BitVec 32 := Scalar.muli v9 c16_i32_12
  let v26 : BitVec 32 := Scalar.addi c0_i32_13 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_cond2 (i : grid0.Coords) : BitVec 1 :=
  let arg0 : BitVec 32 := BitVec.ofNat 32 (i 0).val
  let c32_i32 : BitVec 32 := 32#32
  let v15 : BitVec 1 := Scalar.cmpi .slt arg0 c32_i32
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c2_i32_11 : BitVec 32 := 2#32
  let v24 : BitVec 1 := Scalar.cmpi .sge arg0 c2_i32_11
  let v25 : BitVec 32 := Scalar.extui v24
  let c0_i32_12 : BitVec 32 := 0#32
  let v26 : BitVec 1 := Scalar.cmpi .ne v25 c0_i32_12
  v26

def k0_off1 (i : grid0.Coords) : Fin 1 → Nat :=
  let arg0 : BitVec 32 := BitVec.ofNat 32 (i 0).val
  let c2_i32_4 : BitVec 32 := 2#32
  let v13 : BitVec 32 := Scalar.remsi arg0 c2_i32_4
  ![v13.toNat]
def k0_off2 (i : grid0.Coords) : Fin 3 → Nat :=
  let arg0 : BitVec 32 := BitVec.ofNat 32 (i 0).val
  let c2_i32_4 : BitVec 32 := 2#32
  let v13 : BitVec 32 := Scalar.remsi arg0 c2_i32_4
  let c0_i32_18 : BitVec 32 := 0#32
  let c0_i32_19 : BitVec 32 := 0#32
  ![v13.toNat, 0, 0]
def k0_off3 (i : grid0.Coords) : Fin 3 → Nat :=
  let arg0 : BitVec 32 := BitVec.ofNat 32 (i 0).val
  let c4_i32_5 : BitVec 32 := 4#32
  let v14 : BitVec 32 := Scalar.remsi arg0 c4_i32_5
  let c0_i32_20 : BitVec 32 := 0#32
  let c0_i32_21 : BitVec 32 := 0#32
  ![v14.toNat, 0, 0]
def k0_cond4 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_13 : BitVec 32 := 0#32
  let v27 : BitVec 1 := Scalar.cmpi .eq v2 c0_i32_13
  let v28 : BitVec 32 := Scalar.extui v27
  let c0_i32_14 : BitVec 32 := 0#32
  let v29 : BitVec 1 := Scalar.cmpi .ne v28 c0_i32_14
  v29

def k0_off4 (i : grid0.Coords) : Fin 3 → Nat :=
  let arg0 : BitVec 32 := BitVec.ofNat 32 (i 0).val
  let c2_i32_4 : BitVec 32 := 2#32
  let v13 : BitVec 32 := Scalar.remsi arg0 c2_i32_4
  let v39 : Index := Scalar.indexCast v13
  let c0_19 : Index := 0#32
  let c0_20 : Index := 0#32
  ![v39.toNat, 0, 0]
def k0_off5 (i : grid0.Coords) : Fin 1 → Nat :=
  let arg0 : BitVec 32 := BitVec.ofNat 32 (i 0).val
  let c2_i32_4 : BitVec 32 := 2#32
  let v13 : BitVec 32 := Scalar.remsi arg0 c2_i32_4
  ![v13.toNat]
def k0_off6 (i : grid0.Coords) : Fin 1 → Nat :=
  let arg0 : BitVec 32 := BitVec.ofNat 32 (i 0).val
  let c4_i32_5 : BitVec 32 := 4#32
  let v14 : BitVec 32 := Scalar.remsi arg0 c4_i32_5
  ![v14.toNat]
def k0_off7 (i : grid0.Coords) : Fin 3 → Nat :=
  let arg0 : BitVec 32 := BitVec.ofNat 32 (i 0).val
  let c4_i32_5 : BitVec 32 := 4#32
  let v14 : BitVec 32 := Scalar.remsi arg0 c4_i32_5
  let c0_i32_25 : BitVec 32 := 0#32
  let c0_i32_26 : BitVec 32 := 0#32
  ![v14.toNat, 0, 0]
def k0_off8 (i : grid0.Coords) : Fin 3 → Nat :=
  let arg0 : BitVec 32 := BitVec.ofNat 32 (i 0).val
  let c2_i32_4 : BitVec 32 := 2#32
  let v13 : BitVec 32 := Scalar.remsi arg0 c2_i32_4
  let c0_i32_27 : BitVec 32 := 0#32
  let c0_i32_28 : BitVec 32 := 0#32
  ![v13.toNat, 0, 0]
def k0_dev2 (d0 : Dev nD) : Nat :=
  let c0_i32_22 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_21 : BitVec 32 := 16#32
  let v43 : BitVec 32 := Scalar.muli v9 c16_i32_21
  let v44 : BitVec 32 := Scalar.addi c0_i32_22 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v45 : BitVec 32 := Scalar.muli v5 c4_i32_23
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v47 : BitVec 32 := Scalar.muli v8 c1_i32_24
  let v48 : BitVec 32 := Scalar.addi v46 v47
  v48.toNat
def k0_cond5 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_15 : BitVec 32 := 1#32
  let v30 : BitVec 1 := Scalar.cmpi .eq v2 c1_i32_15
  let v31 : BitVec 32 := Scalar.extui v30
  let c0_i32_16 : BitVec 32 := 0#32
  let v32 : BitVec 1 := Scalar.cmpi .ne v31 c0_i32_16
  v32

def k0_off9 (i : grid0.Coords) : Fin 3 → Nat :=
  let arg0 : BitVec 32 := BitVec.ofNat 32 (i 0).val
  let c2_i32_4 : BitVec 32 := 2#32
  let v13 : BitVec 32 := Scalar.remsi arg0 c2_i32_4
  let v39 : Index := Scalar.indexCast v13
  let c0_20 : Index := 0#32
  let c0_21 : Index := 0#32
  ![v39.toNat, 0, 0]
def k0_off10 (i : grid0.Coords) : Fin 1 → Nat :=
  let arg0 : BitVec 32 := BitVec.ofNat 32 (i 0).val
  let c2_i32_4 : BitVec 32 := 2#32
  let v13 : BitVec 32 := Scalar.remsi arg0 c2_i32_4
  ![v13.toNat]
def k0_off11 (i : grid0.Coords) : Fin 1 → Nat :=
  let arg0 : BitVec 32 := BitVec.ofNat 32 (i 0).val
  let c4_i32_5 : BitVec 32 := 4#32
  let v14 : BitVec 32 := Scalar.remsi arg0 c4_i32_5
  ![v14.toNat]
def k0_off12 (i : grid0.Coords) : Fin 3 → Nat :=
  let arg0 : BitVec 32 := BitVec.ofNat 32 (i 0).val
  let c4_i32_5 : BitVec 32 := 4#32
  let v14 : BitVec 32 := Scalar.remsi arg0 c4_i32_5
  let c0_i32_26 : BitVec 32 := 0#32
  let c0_i32_27 : BitVec 32 := 0#32
  ![v14.toNat, 0, 0]
def k0_off13 (i : grid0.Coords) : Fin 3 → Nat :=
  let arg0 : BitVec 32 := BitVec.ofNat 32 (i 0).val
  let c2_i32_4 : BitVec 32 := 2#32
  let v13 : BitVec 32 := Scalar.remsi arg0 c2_i32_4
  let c0_i32_28 : BitVec 32 := 0#32
  let c0_i32_29 : BitVec 32 := 0#32
  ![v13.toNat, 0, 0]
def k0_dev3 (d0 : Dev nD) : Nat :=
  let c0_i32_23 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_22 : BitVec 32 := 16#32
  let v43 : BitVec 32 := Scalar.muli v9 c16_i32_22
  let v44 : BitVec 32 := Scalar.addi c0_i32_23 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v45 : BitVec 32 := Scalar.muli v5 c4_i32_24
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.muli v8 c1_i32_25
  let v48 : BitVec 32 := Scalar.addi v46 v47
  v48.toNat
def k0_cond7 (i : grid0.Coords) : BitVec 1 :=
  let arg0 : BitVec 32 := BitVec.ofNat 32 (i 0).val
  let c1_i32_9 : BitVec 32 := 1#32
  let v21 : BitVec 1 := Scalar.cmpi .sge arg0 c1_i32_9
  let v22 : BitVec 32 := Scalar.extui v21
  let c0_i32_10 : BitVec 32 := 0#32
  let v23 : BitVec 1 := Scalar.cmpi .ne v22 c0_i32_10
  v23

def k0_off14 (i : grid0.Coords) : Fin 1 → Nat :=
  let arg0 : BitVec 32 := BitVec.ofNat 32 (i 0).val
  let c1_i32_11 : BitVec 32 := 1#32
  let v24 : BitVec 32 := Scalar.subi arg0 c1_i32_11
  let c4_i32_13 : BitVec 32 := 4#32
  let v26 : BitVec 32 := Scalar.remsi v24 c4_i32_13
  ![v26.toNat]
def k0_off15 (i : grid0.Coords) : Fin 3 → Nat :=
  let arg0 : BitVec 32 := BitVec.ofNat 32 (i 0).val
  let c1_i32_11 : BitVec 32 := 1#32
  let v24 : BitVec 32 := Scalar.subi arg0 c1_i32_11
  let c4_i32_13 : BitVec 32 := 4#32
  let v26 : BitVec 32 := Scalar.remsi v24 c4_i32_13
  let c0_i32_18 : BitVec 32 := 0#32
  let c0_i32_19 : BitVec 32 := 0#32
  ![v26.toNat, 0, 0]
def k0_off16 (i : grid0.Coords) : Fin 3 → Nat :=
  let arg0 : BitVec 32 := BitVec.ofNat 32 (i 0).val
  let c1_i32_11 : BitVec 32 := 1#32
  let v24 : BitVec 32 := Scalar.subi arg0 c1_i32_11
  let c2_i32_12 : BitVec 32 := 2#32
  let v25 : BitVec 32 := Scalar.remsi v24 c2_i32_12
  let c0_i32_20 : BitVec 32 := 0#32
  let c0_i32_21 : BitVec 32 := 0#32
  ![v25.toNat, 0, 0]
def k0_off17 (i : grid0.Coords) : Fin 3 → Nat :=
  let arg0 : BitVec 32 := BitVec.ofNat 32 (i 0).val
  let c1_i32_11 : BitVec 32 := 1#32
  let v24 : BitVec 32 := Scalar.subi arg0 c1_i32_11
  let c2_i32_12 : BitVec 32 := 2#32
  let v25 : BitVec 32 := Scalar.remsi v24 c2_i32_12
  let v39 : Index := Scalar.indexCast v25
  let c0 : Index := 0#32
  let c0_22 : Index := 0#32
  ![v39.toNat, 0, 0]
def k0_off18 (i : grid0.Coords) : Fin 3 → Nat :=
  let arg0 : BitVec 32 := BitVec.ofNat 32 (i 0).val
  let c1_i32_11 : BitVec 32 := 1#32
  let v24 : BitVec 32 := Scalar.subi arg0 c1_i32_11
  let c4_i32_13 : BitVec 32 := 4#32
  let v26 : BitVec 32 := Scalar.remsi v24 c4_i32_13
  let v42 : Index := Scalar.indexCast v26
  let c0_23 : Index := 0#32
  let c0_24 : Index := 0#32
  ![v42.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x8192, .bf16⟩
  | .hbm, ⟨2, _⟩ => ⟨S4096x8192, .bf16⟩
  | .hbm, ⟨3, _⟩ => ⟨S4096x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/-
# The exchange of the kernel: devices, buffers' slots, semaphores, and the values that travel

Thirty-two devices in the mesh x = 2, y = 4, z = 4; a device exchanges with the one differing from it in x
alone. Chunk `j` (of 32) of the outgoing half product goes through send slot `j % 2`, lands in the peer's
receive slot `j % 4`, and is added to the half product kept in keep slot `j % 2`. Everything here is indexed by
the chunk, so that slots and cells of chunks alike modulo 2 or 4 are the same by definition's arithmetic.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Value
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

/-- The exchange's own copy of the rounds algebra: one duty per round of a cell. -/
abbrev UB : Type := URounds (GSem nD τ sig) Unit
/-- The staging copies' rounds beside the exchange's. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-! ## Devices -/

/-- The device with the other x coordinate. -/
def peer (c : Dev nD) : Dev nD := ⟨(c.val + 16) % 32, Nat.mod_lt _ (by decide)⟩

theorem peer_peer (c : Dev nD) : peer (peer c) = c := by
  have := c.isLt; apply Fin.ext; simp only [peer, nD] at *; omega

theorem peer_ne (c : Dev nD) : peer c ≠ c := by
  intro h; have h := congrArg Fin.val h; have := c.isLt; simp only [peer, nD] at *; omega

theorem peer_lo (c : Dev nD) : (peer c).val < 16 ↔ ¬ c.val < 16 := by
  have := c.isLt; simp only [peer, nD] at *; omega

/-- The peers as a permutation of the devices. -/
def swap : Dev nD ≃ Dev nD := ⟨peer, peer, peer_peer, peer_peer⟩

theorem peerWord (c : Dev nD) : (4 * ((c.val / 4) % 4) + (c.val % 4) + 16) - 16 * (c.val / 16) = (peer c).val := by
  have := c.isLt; simp only [peer, nD] at *; omega

theorem dev1_eq (c : Dev nD) : k0_dev1 c = (peer c).val := (k0_dev1_eq c).trans (peerWord c)
theorem dev2_eq (c : Dev nD) : k0_dev2 c = (peer c).val := (k0_dev2_eq c).trans (peerWord c)
theorem dev3_eq (c : Dev nD) : k0_dev3 c = (peer c).val := (k0_dev3_eq c).trans (peerWord c)

/-! ## Grid points and the conditions on them -/

theorem cfg0_N : cfg0.N = 33 := N_0

/-- Step `j` of the grid (for `j < 33`). -/
def pt (j : ℕ) : Fin cfg0.N := ⟨j % 33, by rw [cfg0_N]; exact Nat.mod_lt _ (by decide)⟩

theorem pt_val (t : Fin cfg0.N) : pt t.val = t := by
  exact Fin.ext (Nat.mod_eq_of_lt (lt_of_lt_of_eq t.isLt cfg0_N))

theorem coords_val : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val < 32 := by decide +kernel
theorem cond3_iff : ∀ t : Fin grid0.N, k0_cond3 (grid0.coords t) = 1#1 ↔ 2 ≤ t.val := by decide +kernel
theorem cond4_iff : ∀ c : Dev nD, k0_cond4 c = 1#1 ↔ c.val < 16 := by decide +kernel
theorem cond5_iff : ∀ c : Dev nD, k0_cond5 c = 1#1 ↔ ¬ c.val < 16 := by decide +kernel
theorem cond6_iff : ∀ t : Fin grid0.N,
    Scalar.cmpi .ne (Scalar.extui (Scalar.cmpi .eq (BitVec.ofNat 32 (grid0.coords t 0).val) 32#32) : BitVec 32) 0#32 = 1#1 ↔ t.val = 32 := by
  decide +kernel
theorem cond7_iff : ∀ t : Fin grid0.N, k0_cond7 (grid0.coords t) = 1#1 ↔ 1 ≤ t.val := by decide +kernel

/-! ## Slots and semaphores, by chunk -/

theorem inb2 (k : ℕ) : ∀ a, (![k % 2, 0, 0] : Fin 3 → ℕ) a + S1x2048x256.size a ≤ S2x2048x256.size a := by
  intro a; fin_cases a
  · show k % 2 + 1 ≤ 2; omega
  · exact Nat.le_refl _
  · exact Nat.le_refl _

theorem inb4 (k : ℕ) : ∀ a, (![k % 4, 0, 0] : Fin 3 → ℕ) a + S1x2048x256.size a ≤ S4x2048x256.size a := by
  intro a; fin_cases a
  · show k % 4 + 1 ≤ 4; omega
  · exact Nat.le_refl _
  · exact Nat.le_refl _

abbrev sM : Memref sig .tc .vmem S2x2048x256 .bf16 := Memref.whole cc0_scratch0
abbrev rM : Memref sig .tc .vmem S4x2048x256 .bf16 := Memref.whole cc0_scratch1
abbrev kM : Memref sig .tc .vmem S2x2048x256 .f32 := Memref.whole cc0_scratch2

/-- The rectangle of slot `k % 2` of a two-slot buffer, and of slot `k % 4` of a four-slot one. -/
abbrev rect2 (k : ℕ) : Rect S2x2048x256 := Rect.unit (s := S2x2048x256) ![k % 2, 0, 0] S1x2048x256.size (inb2 k)
abbrev rect4 (k : ℕ) : Rect S4x2048x256 := Rect.unit (s := S4x2048x256) ![k % 4, 0, 0] S1x2048x256.size (inb4 k)

/-- Chunk `k`'s send slot, receive slot and keep slot. -/
abbrev sSl (k : ℕ) : Memref sig .tc .vmem S2048x256 .bf16 := (sM.slice (rect2 k) (fun _ => rfl)).squeeze S2048x256 squeezes_S1x2048x256_S2048x256
abbrev rSl (k : ℕ) : Memref sig .tc .vmem S2048x256 .bf16 := (rM.slice (rect4 k) (fun _ => rfl)).squeeze S2048x256 squeezes_S1x2048x256_S2048x256
abbrev kSl (k : ℕ) : Memref sig .tc .vmem S2048x256 .f32 := (kM.slice (rect2 k) (fun _ => rfl)).squeeze S2048x256 squeezes_S1x2048x256_S2048x256

theorem rect2_congr {a b : ℕ} (h : a % 2 = b % 2) : rect2 a = rect2 b := Rect.unit_congr (by rw [h]) _ _
theorem rect4_congr {a b : ℕ} (h : a % 4 = b % 4) : rect4 a = rect4 b := Rect.unit_congr (by rw [h]) _ _

theorem sSl_congr {a b : ℕ} (h : a % 2 = b % 2) : sSl a = sSl b := by
  unfold sSl; congr 2; exact rect2_congr h
theorem rSl_congr {a b : ℕ} (h : a % 4 = b % 4) : rSl a = rSl b := by
  unfold rSl; congr 2; exact rect4_congr h

/-- A slot spelt at any offsets equal to the chunk's is the chunk's slot. -/
theorem sSl_of (k : ℕ) {off : Fin 3 → ℕ} (h : off = ![k % 2, 0, 0]) (inb) (hr) :
    (sM.slice (Rect.unit (s := S2x2048x256) off S1x2048x256.size inb) hr).squeeze S2048x256 squeezes_S1x2048x256_S2048x256 = sSl k := by
  subst h; rfl
theorem rSl_of (k : ℕ) {off : Fin 3 → ℕ} (h : off = ![k % 4, 0, 0]) (inb) (hr) :
    (rM.slice (Rect.unit (s := S4x2048x256) off S1x2048x256.size inb) hr).squeeze S2048x256 squeezes_S1x2048x256_S2048x256 = rSl k := by
  subst h; rfl

/-- The runtime's barrier semaphore; chunk `k`'s send and receive semaphores. -/
abbrev barS : Sem sig := (SemArray.scalar (sig.barrier 0 rfl) : Sems sig S_).sem
abbrev sS (k : ℕ) : DmaSem sig := ⟨5 + k % 2, by have : k % 2 < 2 := Nat.mod_lt _ (by decide); show 5 + k % 2 < 11; omega⟩
abbrev rS (k : ℕ) : DmaSem sig := ⟨7 + k % 4, by have : k % 4 < 4 := Nat.mod_lt _ (by decide); show 7 + k % 4 < 11; omega⟩

theorem sS_congr {a b : ℕ} (h : a % 2 = b % 2) : sS a = sS b := Fin.ext (by show 5 + a % 2 = 5 + b % 2; rw [h])
theorem rS_congr {a b : ℕ} (h : a % 4 = b % 4) : rS a = rS b := Fin.ext (by show 7 + a % 4 = 7 + b % 4; rw [h])

theorem sS_aux {r : ℕ} (hr : r < 2) (inb) (hb : 5 + r < sig.nDmaSem) :
    ((cc0_scratch3.slice (Rect.unit (s := S2) ![r] S1.size inb)).squeeze S_ squeezes_S1_S_).sem = (⟨5 + r, hb⟩ : DmaSem sig) := by
  rcases (by omega : r = 0 ∨ r = 1) with rfl | rfl
  · exact (by decide +kernel : ((cc0_scratch3.slice (Rect.unit (s := S2) ![0] S1.size (by decide))).squeeze S_ squeezes_S1_S_).sem = (⟨5 + 0, by decide⟩ : DmaSem sig))
  · exact (by decide +kernel : ((cc0_scratch3.slice (Rect.unit (s := S2) ![1] S1.size (by decide))).squeeze S_ squeezes_S1_S_).sem = (⟨5 + 1, by decide⟩ : DmaSem sig))
theorem rS_aux {r : ℕ} (hr : r < 4) (inb) (hb : 7 + r < sig.nDmaSem) :
    ((cc0_scratch4.slice (Rect.unit (s := S4) ![r] S1.size inb)).squeeze S_ squeezes_S1_S_).sem = (⟨7 + r, hb⟩ : DmaSem sig) := by
  rcases (by omega : r = 0 ∨ r = 1 ∨ r = 2 ∨ r = 3) with rfl | rfl | rfl | rfl
  · exact (by decide +kernel : ((cc0_scratch4.slice (Rect.unit (s := S4) ![0] S1.size (by decide))).squeeze S_ squeezes_S1_S_).sem = (⟨7 + 0, by decide⟩ : DmaSem sig))
  · exact (by decide +kernel : ((cc0_scratch4.slice (Rect.unit (s := S4) ![1] S1.size (by decide))).squeeze S_ squeezes_S1_S_).sem = (⟨7 + 1, by decide⟩ : DmaSem sig))
  · exact (by decide +kernel : ((cc0_scratch4.slice (Rect.unit (s := S4) ![2] S1.size (by decide))).squeeze S_ squeezes_S1_S_).sem = (⟨7 + 2, by decide⟩ : DmaSem sig))
  · exact (by decide +kernel : ((cc0_scratch4.slice (Rect.unit (s := S4) ![3] S1.size (by decide))).squeeze S_ squeezes_S1_S_).sem = (⟨7 + 3, by decide⟩ : DmaSem sig))

/-- A semaphore spelt at any index equal to the chunk's is the chunk's semaphore. -/
theorem sS_of (k : ℕ) {off : Fin 1 → ℕ} (h : off = ![k % 2]) (inb) :
    ((cc0_scratch3.slice (Rect.unit (s := S2) off S1.size inb)).squeeze S_ squeezes_S1_S_).sem = sS k := by
  subst h; exact sS_aux (Nat.mod_lt _ (by decide)) _ _
theorem rS_of (k : ℕ) {off : Fin 1 → ℕ} (h : off = ![k % 4]) (inb) :
    ((cc0_scratch4.slice (Rect.unit (s := S4) off S1.size inb)).squeeze S_ squeezes_S1_S_).sem = rS k := by
  subst h; exact rS_aux (Nat.mod_lt _ (by decide)) _ _

abbrev bCell (c : Dev nD) : GSem nD τ sig := ((c : Thread nD τ), .reg barS)
abbrev sCell (c : Dev nD) (k : ℕ) : GSem nD τ sig := ((c : Thread nD τ), .dma (sS k))
abbrev rCell (c : Dev nD) (k : ℕ) : GSem nD τ sig := ((c : Thread nD τ), .dma (rS k))

/-- The credit of one chunk's transfer. -/
abbrev N : ℕ := (rSl 0).view.dmaCredit
theorem N_pos : 0 < N := View.dmaCredit_pos _ (by decide)
theorem credit_r (k : ℕ) : (rSl k).view.dmaCredit = N := rfl
theorem credit_s (k : ℕ) : (sSl k).view.dmaCredit = N := rfl

/-! ## The offsets the program spells, at step `t` -/

section Offs
variable (t : Fin grid0.N)
theorem off1_at : k0_off1 (grid0.coords t) = ![t.val % 2] := by rw [k0_off1_eq, coords_val]
theorem off2_at : k0_off2 (grid0.coords t) = ![t.val % 2, 0, 0] := by rw [k0_off2_eq, coords_val]
theorem off3_at : k0_off3 (grid0.coords t) = ![t.val % 4, 0, 0] := by rw [k0_off3_eq, coords_val]
theorem off4_at : k0_off4 (grid0.coords t) = ![t.val % 2, 0, 0] := by rw [k0_off4_eq, coords_val]
theorem off5_at : k0_off5 (grid0.coords t) = ![t.val % 2] := by rw [k0_off5_eq, coords_val]
theorem off6_at : k0_off6 (grid0.coords t) = ![t.val % 4] := by rw [k0_off6_eq, coords_val]
theorem off7_at : k0_off7 (grid0.coords t) = ![t.val % 4, 0, 0] := by rw [k0_off7_eq, coords_val]
theorem off8_at : k0_off8 (grid0.coords t) = ![t.val % 2, 0, 0] := by rw [k0_off8_eq, coords_val]
theorem off9_at : k0_off9 (grid0.coords t) = ![t.val % 2, 0, 0] := by rw [k0_off9_eq, coords_val]
theorem off10_at : k0_off10 (grid0.coords t) = ![t.val % 2] := by rw [k0_off10_eq, coords_val]
theorem off11_at : k0_off11 (grid0.coords t) = ![t.val % 4] := by rw [k0_off11_eq, coords_val]
theorem off12_at : k0_off12 (grid0.coords t) = ![t.val % 4, 0, 0] := by rw [k0_off12_eq, coords_val]
theorem off13_at : k0_off13 (grid0.coords t) = ![t.val % 2, 0, 0] := by rw [k0_off13_eq, coords_val]
theorem off14_at : ∀ t : Fin grid0.N, 1 ≤ t.val → k0_off14 (grid0.coords t) = ![(t.val - 1) % 4] := by decide +kernel
theorem off15_at : ∀ t : Fin grid0.N, 1 ≤ t.val → k0_off15 (grid0.coords t) = ![(t.val - 1) % 4, 0, 0] := by decide +kernel
theorem off16_at : ∀ t : Fin grid0.N, 1 ≤ t.val → k0_off16 (grid0.coords t) = ![(t.val - 1) % 2, 0, 0] := by decide +kernel
theorem off17_at : ∀ t : Fin grid0.N, 1 ≤ t.val → k0_off17 (grid0.coords t) = ![(t.val - 1) % 2, 0, 0] := by decide +kernel
theorem off18_at : ∀ t : Fin grid0.N, 1 ≤ t.val → k0_off18 (grid0.coords t) = ![(t.val - 1) % 4, 0, 0] := by decide +kernel
end Offs

/-! ## The values -/

/-- The device's block of the first operand, and columns `256 j .. 256 j + 255` of its block of the second. -/
def xBlk (c : Dev nD) : Vec F S4096x4096 .bf16 := iblk m c (0 : Fin 3) (pt 0)
def dyBlk (c : Dev nD) (j : ℕ) : Vec F S4096x256 .bf16 := iblk m c (1 : Fin 3) (pt j)

abbrev rectLo : Rect S4096x4096 := Rect.unit (s := S4096x4096) ![0, 0] S4096x2048.size inb_S4096x4096_S4096x2048_0_0
abbrev rectHi : Rect S4096x4096 := Rect.unit (s := S4096x4096) ![0, 2048] S4096x2048.size inb_S4096x4096_S4096x2048_0_2048

/-- The first and the last 2048 columns of the first operand's block. -/
def xLo (c : Dev nD) : Vec F S4096x2048 .bf16 := fun y => xBlk m c (rectLo.toLoadRect.idx y)
def xHi (c : Dev nD) : Vec F S4096x2048 .bf16 := fun y => xBlk m c (rectHi.toLoadRect.idx y)

/-- What device `c` sends of chunk `j`: the product over its rows, for the result rows the peer keeps. -/
def sentPart (c : Dev nD) (j : ℕ) : Vec F S2048x256 .bf16 :=
  if c.val < 16 then shapeCast S2048x256 (k0_pay1 (xHi m c) (dyBlk m c j)) shapeCasts_S1x2048x256_S2048x256
  else shapeCast S2048x256 (k0_pay3 (xLo m c) (dyBlk m c j)) shapeCasts_S1x2048x256_S2048x256

/-- What it keeps of chunk `j`: the product over its rows, for the result rows it holds itself. -/
def keepPart (c : Dev nD) (j : ℕ) : Vec F S2048x256 .f32 :=
  if c.val < 16 then shapeCast S2048x256 (k0_pay2 (xLo m c) (dyBlk m c j)) shapeCasts_S1x2048x256_S2048x256
  else shapeCast S2048x256 (k0_pay4 (xHi m c) (dyBlk m c j)) shapeCasts_S1x2048x256_S2048x256

/-- Chunk `j` of the result on device `c`: its own part plus its peer's. -/
def outAt (c : Dev nD) (j : ℕ) : Vec F S2048x256 .f32 :=
  addf (keepPart m c j) (extf .f32 (sentPart m (peer c) j : FVec F S2048x256 .bf16) bitsLt_bf16_f32)

omit [FloatOps F] in
/-- The payload stored of two loaded slots is the sum of the values the slots' memrefs read. -/
theorem pay5_eq [FloatOps F] (a : Vec F S1x2048x256 .f32) (b : Vec F S1x2048x256 .bf16) :
    k0_pay5 a b = addf (shapeCast S2048x256 a shapeCasts_S1x2048x256_S2048x256 : FVec F S2048x256 .f32)
      (extf .f32 (shapeCast S2048x256 b shapeCasts_S1x2048x256_S2048x256 : FVec F S2048x256 .bf16) bitsLt_bf16_f32) := rfl

/-! ## Loads and stores through a slot -/

/-- A load at the chunk's offsets reads, cast to the slot's shape, what the chunk's slot holds; -/
theorem sload (k : ℕ) {off : Fin 3 → ℕ} (h : off = ![k % 2, 0, 0]) (inb) (f : sM.view.ty.Contents (Elt F)) :
    shapeCast S2048x256 (sM.view.readAt (Elt F) (Rect.unit (s := S2x2048x256) off S1x2048x256.size inb).toLoadRect f) shapeCasts_S1x2048x256_S2048x256
      = (sSl k).view.read (Elt F) f := by subst h; rfl
theorem rload (k : ℕ) {off : Fin 3 → ℕ} (h : off = ![k % 4, 0, 0]) (inb) (f : rM.view.ty.Contents (Elt F)) :
    shapeCast S2048x256 (rM.view.readAt (Elt F) (Rect.unit (s := S4x2048x256) off S1x2048x256.size inb).toLoadRect f) shapeCasts_S1x2048x256_S2048x256
      = (rSl k).view.read (Elt F) f := by subst h; rfl
theorem kload (k : ℕ) {off : Fin 3 → ℕ} (h : off = ![k % 2, 0, 0]) (inb) (f : kM.view.ty.Contents (Elt F)) :
    shapeCast S2048x256 (kM.view.readAt (Elt F) (Rect.unit (s := S2x2048x256) off S1x2048x256.size inb).toLoadRect f) shapeCasts_S1x2048x256_S2048x256
      = (kSl k).view.read (Elt F) f := by subst h; rfl

/-- the elements a load or a store there touches are the slot's; -/
theorem sset (k : ℕ) {off : Fin 3 → ℕ} (h : off = ![k % 2, 0, 0]) (inb) :
    (sM.access (Rect.unit (s := S2x2048x256) off S1x2048x256.size inb)).set = (sSl k).view.set := by
  subst h; exact (View.set_reshape _ _).symm
theorem rset (k : ℕ) {off : Fin 3 → ℕ} (h : off = ![k % 4, 0, 0]) (inb) :
    (rM.access (Rect.unit (s := S4x2048x256) off S1x2048x256.size inb)).set = (rSl k).view.set := by
  subst h; exact (View.set_reshape _ _).symm

/-- and after a store there the slot reads what was stored, cast to its shape. -/
theorem sstore (k : ℕ) {off : Fin 3 → ℕ} (h : off = ![k % 2, 0, 0]) (inb) (f : sM.view.ty.Contents (Elt F)) (w : Vec F S1x2048x256 .bf16) :
    (sSl k).view.read (Elt F) ((sM.access (Rect.unit (s := S2x2048x256) off S1x2048x256.size inb)).write (Elt F) f w Finset.univ)
      = shapeCast S2048x256 w shapeCasts_S1x2048x256_S2048x256 := by
  subst h
  rw [show (sSl k).view.read (Elt F) ((sM.access (rect2 k)).write (Elt F) f w Finset.univ)
    = shapeCast S2048x256 ((sM.access (rect2 k)).read (Elt F) ((sM.access (rect2 k)).write (Elt F) f w Finset.univ)) shapeCasts_S1x2048x256_S2048x256 from rfl,
    View.read_write_univ]
theorem kstore (k : ℕ) {off : Fin 3 → ℕ} (h : off = ![k % 2, 0, 0]) (inb) (f : kM.view.ty.Contents (Elt F)) (w : Vec F S1x2048x256 .f32) :
    (kSl k).view.read (Elt F) ((kM.access (Rect.unit (s := S2x2048x256) off S1x2048x256.size inb)).write (Elt F) f w Finset.univ)
      = shapeCast S2048x256 w shapeCasts_S1x2048x256_S2048x256 := by
  subst h
  rw [show (kSl k).view.read (Elt F) ((kM.access (rect2 k)).write (Elt F) f w Finset.univ)
    = shapeCast S2048x256 ((kM.access (rect2 k)).read (Elt F) ((kM.access (rect2 k)).write (Elt F) f w Finset.univ)) shapeCasts_S1x2048x256_S2048x256 from rfl,
    View.read_write_univ]

theorem rect2_disjoint {a b : ℕ} (h : a % 2 ≠ b % 2) : Disjoint (rect2 a).set (rect2 b).set := by
  refine Rect.unit_disjoint 0 ?_
  show a % 2 + 1 ≤ b % 2 ∨ b % 2 + 1 ≤ a % 2
  omega
theorem rect4_disjoint {a b : ℕ} (h : a % 4 ≠ b % 4) : Disjoint (rect4 a).set (rect4 b).set := by
  refine Rect.unit_disjoint 0 ?_
  show a % 4 + 1 ≤ b % 4 ∨ b % 4 + 1 ≤ a % 4
  omega

/-- A store into the other keep slot leaves this one as it was. -/
theorem kother {a b : ℕ} (hab : a % 2 ≠ b % 2) {off : Fin 3 → ℕ} (h : off = ![b % 2, 0, 0]) (inb) (f : kM.view.ty.Contents (Elt F)) (w : Vec F S1x2048x256 .f32) :
    (kSl a).view.read (Elt F) ((kM.access (Rect.unit (s := S2x2048x256) off S1x2048x256.size inb)).write (Elt F) f w Finset.univ)
      = (kSl a).view.read (Elt F) f := by
  subst h
  have hd : Disjoint (kM.view.slice (rect2 a)).set ((kM.view.slice (rect2 b)).setOn Finset.univ) := by
    rw [View.setOn_univ, View.set_slice_whole, View.set_slice_whole]; exact rect2_disjoint hab
  have := View.read_slice_write_slice_of_disjoint (v := kM.view) (Val := Elt F) (rect2 a) (rect2 b) f w Finset.univ hd
  rw [← kload a rfl (inb2 a), ← kload a rfl (inb2 a), View.readAt_rect, View.readAt_rect]
  exact congrArg (fun v => shapeCast S2048x256 v shapeCasts_S1x2048x256_S2048x256) this

end Cert.Exchange
-- ==== Proof.Sched.lean ====
/-
# The schedule: what each semaphore's rounds hand over, what a device owes, and the order of waits

Every cell's round has one duty. A device's barrier round hands it the four free receive slots of its peer; round
`r` of send semaphore `b` gives back the send slot of chunk `2 r + b`; round `r` of receive semaphore `b` gives the
receive slot with chunk `4 r + b`, and with it the permit to send chunk `4 r + b + 2`.
-/
module

public import proofs.«01_k».proof.Proof.Common
public import Idealize.SL.BI.BigOpNat

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

/-! ## Payloads -/

/-- Device `c`'s slot `M` holding `X`; holding anything. -/
def slot (M : Memref sig .tc .vmem S2048x256 .bf16) (c : Dev nD) (X : Vec F S2048x256 .bf16) : sProp 𝕄 :=
  owns (c : Thread nD τ) M fullShare X
def free (M : Memref sig .tc .vmem S2048x256 .bf16) (c : Dev nD) : sProp 𝕄 := iprop(∃ X, slot (F := F) M c X)

/-- Device `c` may send chunk `k`: the peer's receive slot is free and its semaphore has come to the chunk's round. -/
def permit (c : Dev nD) (k : ℕ) : sProp 𝕄 := iprop(free (F := F) (rSl k) (peer c) ∗ reached ER (rCell (peer c) k) (k / 4))

def barPay (c : Dev nD) : sProp 𝕄 := bigSep (Finset.Ico 0 4) (permit (F := F) c)
def sendPay (c : Dev nD) (k : ℕ) : sProp 𝕄 := free (F := F) (sSl k) c
def recvPay (c : Dev nD) (k : ℕ) : sProp 𝕄 :=
  iprop(slot (rSl k) c (sentPart m (peer c) k) ∗ (if 2 ≤ k ∧ k < 30 then permit (F := F) c (k + 2) else emp))

omit [FloatOps F] in
instance slot_storable (M) (c : Dev nD) (X) : BI.Storable (upEmb : UEmb _ 𝕄) (slot (F := F) M c X) := by unfold slot; infer_instance
omit [FloatOps F] in
instance free_storable (M) (c : Dev nD) : BI.Storable (upEmb : UEmb _ 𝕄) (free (F := F) M c) := by unfold free; infer_instance
omit [FloatOps F] in
instance permit_storable (c : Dev nD) (k : ℕ) : BI.Storable (upEmb : UEmb _ 𝕄) (permit (F := F) c k) := by unfold permit; infer_instance
omit [FloatOps F] in
instance barPay_storable (c : Dev nD) : BI.Storable (upEmb : UEmb _ 𝕄) (barPay (F := F) c) := by unfold barPay; infer_instance
omit [FloatOps F] in
instance sendPay_storable (c : Dev nD) (k : ℕ) : BI.Storable (upEmb : UEmb _ 𝕄) (sendPay (F := F) c k) := by unfold sendPay; infer_instance
instance recvPay_storable (c : Dev nD) (k : ℕ) : BI.Storable (upEmb : UEmb _ 𝕄) (recvPay m c k) := by
  unfold recvPay
  by_cases h : 2 ≤ k ∧ k < 30
  · rw [if_pos h]; infer_instance
  · rw [if_neg h]; infer_instance

/-! ## The schedule -/

/-- One duty a round: the barrier's one round of one unit, sixteen rounds of a send semaphore and eight of a receive
    semaphore, each of one chunk's credit. -/
def Rd : Rounds.Schedule (GSem nD τ sig) Unit 𝕄 where
  duties g r := match g.2 with
    | .reg _ => if r = 0 then {()} else ∅
    | .dma q => if q.val < 7 then (if r < 16 then {()} else ∅) else (if r < 8 then {()} else ∅)
  unitless _ := False
  amount g _ _ := match g.2 with
    | .reg _ => 1
    | .dma _ => N
  payload g r _ := match g.2 with
    | .reg _ => barPay (F := F) g.1.1
    | .dma q => if q.val < 7 then sendPay (F := F) g.1.1 (q.val - 5) else recvPay m g.1.1 (4 * r + (q.val - 7))
  amount_pos g _ _ _ := match g.2 with
    | .reg _ => Nat.one_pos
    | .dma _ => N_pos

instance Rd_payload_storable (g : GSem nD τ sig) (r : ℕ) (d : Unit) : BI.Storable (upEmb : UEmb _ 𝕄) ((Rd (F := F) m).payload g r d) := by
  obtain ⟨t, sm⟩ := g
  cases sm with
  | reg s => exact barPay_storable t.1
  | dma q =>
    show BI.Storable upEmb (if q.val < 7 then sendPay (F := F) t.1 (q.val - 5) else recvPay m t.1 (4 * r + (q.val - 7)))
    by_cases h : q.val < 7
    · rw [if_pos h]; exact sendPay_storable _ _
    · rw [if_neg h]; exact recvPay_storable m _ _

section Tables
variable (c : Dev nD) (k : ℕ)

theorem sS_lt : (sS k).val < 7 := by have : k % 2 < 2 := Nat.mod_lt _ (by decide); show 5 + k % 2 < 7; omega
theorem rS_ge : ¬ (rS k).val < 7 := by show ¬ 7 + k % 4 < 7; omega

theorem duties_b : (Rd (F := F) m).duties (bCell c) 0 = {()} := rfl
theorem duties_s (h : k < 32) : (Rd (F := F) m).duties (sCell c k) (k / 2) = {()} := by
  show (if (sS k).val < 7 then (if k / 2 < 16 then {()} else ∅) else _) = _
  rw [if_pos (sS_lt k), if_pos (by omega)]
theorem duties_r (h : k < 32) : (Rd (F := F) m).duties (rCell c k) (k / 4) = {()} := by
  show (if (rS k).val < 7 then _ else (if k / 4 < 8 then {()} else ∅)) = _
  rw [if_neg (rS_ge k), if_pos (by omega)]
theorem late_b : ∀ r, 1 ≤ r → (Rd (F := F) m).duties (bCell c) r = ∅ := fun r hr => if_neg (by omega)
theorem late_s (h : 32 ≤ k) : ∀ r, k / 2 ≤ r → (Rd (F := F) m).duties (sCell c k) r = ∅ := fun r hr => by
  show (if (sS k).val < 7 then (if r < 16 then {()} else ∅) else _) = _
  rw [if_pos (sS_lt k), if_neg (by omega)]
theorem late_r (h : 32 ≤ k) : ∀ r, k / 4 ≤ r → (Rd (F := F) m).duties (rCell c k) r = ∅ := fun r hr => by
  show (if (rS k).val < 7 then _ else (if r < 8 then {()} else ∅)) = _
  rw [if_neg (rS_ge k), if_neg (by omega)]

theorem amount_b : (Rd (F := F) m).amount (bCell c) 0 () = 1 := rfl
theorem amount_s (r : ℕ) : (Rd (F := F) m).amount (sCell c k) r () = N := rfl
theorem amount_r (r : ℕ) : (Rd (F := F) m).amount (rCell c k) r () = N := rfl

theorem expect_b : (Rd (F := F) m).expect (bCell c) 0 = 1 := by
  unfold Schedule.expect Schedule.amountOf; rw [duties_b, Finset.sum_singleton, amount_b]
theorem expect_s (h : k < 32) : (Rd (F := F) m).expect (sCell c k) (k / 2) = N := by
  unfold Schedule.expect Schedule.amountOf; rw [duties_s m c k h, Finset.sum_singleton, amount_s]
theorem expect_r (h : k < 32) : (Rd (F := F) m).expect (rCell c k) (k / 4) = N := by
  unfold Schedule.expect Schedule.amountOf; rw [duties_r m c k h, Finset.sum_singleton, amount_r]

theorem payload_b : (Rd (F := F) m).payload (bCell c) 0 () = barPay c := rfl
theorem payload_s (r : ℕ) : (Rd (F := F) m).payload (sCell c k) r () = sendPay c k := by
  show (if (sS k).val < 7 then sendPay (F := F) c ((sS k).val - 5) else _) = _
  rw [if_pos (sS_lt k)]; unfold sendPay
  rw [sSl_congr (a := (sS k).val - 5) (b := k) (by show (5 + k % 2 - 5) % 2 = k % 2; omega)]
theorem payload_r : (Rd (F := F) m).payload (rCell c k) (k / 4) () = recvPay m c k := by
  show (if (rS k).val < 7 then _ else recvPay m c (4 * (k / 4) + ((rS k).val - 7))) = _
  rw [if_neg (rS_ge k), show 4 * (k / 4) + ((rS k).val - 7) = k by show 4 * (k / 4) + (7 + k % 4 - 7) = k; omega]

/-- The payloads a wait for a whole round gathers. -/
theorem rest_b : bigSep ((Rd (F := F) m).duties (bCell c) 0 \ ∅) (fun d => (Rd (F := F) m).payload (bCell c) 0 d) = barPay c := by
  rw [Finset.sdiff_empty, duties_b, bigSep_singleton, payload_b]
theorem rest_s (h : k < 32) : bigSep ((Rd (F := F) m).duties (sCell c k) (k / 2) \ ∅) (fun d => (Rd (F := F) m).payload (sCell c k) (k / 2) d) = sendPay c k := by
  rw [Finset.sdiff_empty, duties_s m c k h, bigSep_singleton, payload_s]
theorem rest_r (h : k < 32) : bigSep ((Rd (F := F) m).duties (rCell c k) (k / 4) \ ∅) (fun d => (Rd (F := F) m).payload (rCell c k) (k / 4) d) = recvPay m c k := by
  rw [Finset.sdiff_empty, duties_r m c k h, bigSep_singleton, payload_r]

end Tables

/-! ## What a device owes, and the levels -/

/-- What device `c` owes its peer's receive cells from step `t` on: every chunk's credit still to be sent. -/
def Ow (c : Dev nD) (t : ℕ) : CellTallies nD τ sig ℕ := ∑ j ∈ Finset.Ico t 32, tallyAt (rCell (peer c) j) j N
/-- At launch it owes the peer's barrier a unit besides. -/
def Ow₀ (c : Dev nD) : CellTallies nD τ sig ℕ := Ow c 0 + tallyAt (bCell (peer c)) 0 1

theorem Ow_succ (c : Dev nD) {t : ℕ} (h : t < 32) : Ow c t = Ow c (t + 1) + tallyAt (rCell (peer c) t) t N := by
  unfold Ow; rw [Ring.sum_Ico_succ h, add_comm]
theorem Ow_done (c : Dev nD) {t : ℕ} (h : 32 ≤ t) : Ow c t = 0 := by
  unfold Ow; rw [Finset.Ico_eq_empty (by omega), Finset.sum_empty]

def Ls (g : GSem nD τ sig) : Finset ℕ := if g.1.2 = .tc then Finset.range 33 else ∅
/-- Staging and send cells lowest, barrier cells above them, a receive cell above both at the height of the chunk. -/
def lv (g : GSem nD τ sig) (u : ℕ) : ℕ := match g.2 with
  | .reg _ => 1
  | .dma q => if q.val < 7 then 0 else u + 2

theorem Ls_of_ne (g : GSem nD τ sig) (h : g.1.2 ≠ .tc) : Ls g = ∅ := if_neg h
theorem mem_Ls (c : Dev nD) (sm : SemLoc sig) {u : ℕ} (h : u < 33) : u ∈ Ls ((c : Thread nD τ), sm) := by
  unfold Ls; rw [if_pos rfl]; exact Finset.mem_range.mpr h
theorem lv_r (c : Dev nD) (k u : ℕ) : lv (rCell c k) u = u + 2 := if_neg (rS_ge k)
theorem lv_s (c : Dev nD) (k u : ℕ) : lv (sCell c k) u = 0 := if_pos (sS_lt k)
theorem lv_b (c : Dev nD) (u : ℕ) : lv (bCell c) u = 1 := rfl

theorem Ow_pos (c : Dev nD) (t : ℕ) {g : GSem nD τ sig} {u : ℕ} (h : 0 < Ow c t g u) : ∃ j, t ≤ j ∧ j < 32 ∧ g = rCell (peer c) j ∧ u = j := by
  obtain ⟨j, hj, h⟩ := Pipeline.sum_pos_exists h
  obtain ⟨h1, h2⟩ := Pipeline.tallyAt_pos h
  exact ⟨j, (Finset.mem_Ico.mp hj).1, (Finset.mem_Ico.mp hj).2, h1, h2⟩

theorem Ow₀_pos (c : Dev nD) {g : GSem nD τ sig} {u : ℕ} (h : 0 < Ow₀ c g u) :
    (∃ j, j < 32 ∧ g = rCell (peer c) j ∧ u = j) ∨ (g = bCell (peer c) ∧ u = 0) := by
  rcases Pipeline.add_pos_cases h with h0 | h0
  · obtain ⟨j, -, h2⟩ := Ow_pos c 0 h0; exact Or.inl ⟨j, h2⟩
  · exact Or.inr (Pipeline.tallyAt_pos h0)

/-- A wait below chunk `t`'s height may be made while chunks from `t` on are owed; -/
theorem mayWait_Ow (c : Dev nD) (sm : SemLoc sig) {u : ℕ} (hu : u < 33) (t : ℕ) (hl : lv ((c : Thread nD τ), sm) u < t + 2) :
    (levAts Ls lv : sProp 𝕄) ⊢ MayWait (c : Thread nD τ) sm u (Ow c t) :=
  MayOwe.of_cut (L := Ls) (lev := lv) (lv ((c : Thread nD τ), sm) u)
    (fun p hp => by rw [Finset.mem_singleton.mp hp]; exact mem_Ls c sm hu)
    (fun g u hg => by obtain ⟨j, _, h2, rfl, rfl⟩ := Ow_pos c t hg; exact mem_Ls _ _ (by omega))
    (fun p hp => by rw [Finset.mem_singleton.mp hp])
    (fun g u hg => by obtain ⟨j, h1, h2, rfl, rfl⟩ := Ow_pos c t hg; rw [lv_r]; omega)

/-- and a wait at the lowest level while the barrier's unit is owed too. -/
theorem mayWait_Ow₀ (c : Dev nD) (sm : SemLoc sig) {u : ℕ} (hu : u < 33) (hl : lv ((c : Thread nD τ), sm) u = 0) :
    (levAts Ls lv : sProp 𝕄) ⊢ MayWait (c : Thread nD τ) sm u (Ow₀ c) :=
  MayOwe.of_cut (L := Ls) (lev := lv) 0
    (fun p hp => by rw [Finset.mem_singleton.mp hp]; exact mem_Ls c sm hu)
    (fun g u hg => by
      rcases Ow₀_pos c hg with ⟨j, h2, rfl, rfl⟩ | ⟨rfl, rfl⟩
      · exact mem_Ls _ _ (by omega)
      · exact mem_Ls _ _ (by omega))
    (fun p hp => by rw [Finset.mem_singleton.mp hp]; exact hl.le)
    (fun g u hg => by
      rcases Ow₀_pos c hg with ⟨j, h2, rfl, rfl⟩ | ⟨rfl, rfl⟩
      · rw [lv_r]; omega
      · rw [lv_b]; omega)

/-! ## The cells and their invariants -/

/-- A device's seven cells: the barrier, two send and four receive semaphores. -/
abbrev csem : Fin 7 → SemLoc sig
  | 0 => .reg barS | 1 => .dma (sS 0) | 2 => .dma (sS 1) | 3 => .dma (rS 0) | 4 => .dma (rS 1) | 5 => .dma (rS 2) | 6 => .dma (rS 3)
abbrev kcell (ck : Dev nD × Fin 7) : GSem nD τ sig := ((ck.1 : Thread nD τ), csem ck.2)

def kS (k : ℕ) : Fin 7 := ⟨1 + k % 2, by have : k % 2 < 2 := Nat.mod_lt _ (by decide); omega⟩
def kR (k : ℕ) : Fin 7 := ⟨3 + k % 4, by have : k % 4 < 4 := Nat.mod_lt _ (by decide); omega⟩

theorem kcell_s (c : Dev nD) (k : ℕ) : kcell (c, kS k) = sCell c k := by
  have h : csem (kS k) = .dma (sS (k % 2)) := by
    unfold kS
    rcases (by omega : k % 2 = 0 ∨ k % 2 = 1) with h | h <;> simp only [h] <;> rfl
  show ((c : Thread nD τ), csem (kS k)) = _
  rw [h, sS_congr (Nat.mod_mod k 2)]
theorem kcell_r (c : Dev nD) (k : ℕ) : kcell (c, kR k) = rCell c k := by
  have h : csem (kR k) = .dma (rS (k % 4)) := by
    unfold kR
    rcases (by omega : k % 4 = 0 ∨ k % 4 = 1 ∨ k % 4 = 2 ∨ k % 4 = 3) with h | h | h | h <;> simp only [h] <;> rfl
  show ((c : Thread nD τ), csem (kR k)) = _
  rw [h, rS_congr (Nat.mod_mod k 4)]

/-- Every device's every cell runs the schedule, and has reached its first round. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

variable (K : Dev nD × Fin 7 → ℕ)

theorem records_inv (ck : Dev nD × Fin 7) : records m K ⊢ cellInv ER (Rd m) (K ck) (kcell ck) :=
  sep_elim_left.trans (bigSep_elim (Finset.mem_univ ck))
theorem records_reached (ck : Dev nD × Fin 7) : records m K ⊢ reached ER (kcell ck) 0 :=
  sep_elim_right.trans (bigSep_elim (Finset.mem_univ ck))

theorem inv_b (c : Dev nD) : records m K ⊢ cellInv ER (Rd m) (K (c, 0)) (bCell c) := records_inv m K (c, 0)
theorem inv_s (c : Dev nD) (k : ℕ) : records m K ⊢ cellInv ER (Rd m) (K (c, kS k)) (sCell c k) := by
  rw [← kcell_s]; exact records_inv m K (c, kS k)
theorem inv_r (c : Dev nD) (k : ℕ) : records m K ⊢ cellInv ER (Rd m) (K (c, kR k)) (rCell c k) := by
  rw [← kcell_r]; exact records_inv m K (c, kR k)
theorem reached_b (c : Dev nD) : records m K ⊢ reached ER (bCell c) 0 := records_reached m K (c, 0)
theorem reached_s (c : Dev nD) (k : ℕ) : records m K ⊢ reached ER (sCell c k) 0 := by
  rw [← kcell_s]; exact records_reached m K (c, kS k)
theorem reached_r (c : Dev nD) (k : ℕ) : records m K ⊢ reached ER (rCell c k) 0 := by
  rw [← kcell_r]; exact records_reached m K (c, kR k)

end Cert.Exchange
-- ==== Proof.Steps.lean ====
/-
# The steps of the kernel: its waits, its send, its loads and stores, each on the resources it takes and gives
-/
module

public import proofs.«01_k».proof.Proof.Sched

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

abbrev 𝒱₀ : Variants := Variants.none

/-- Running `p` on device `c` ends with `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds -/

/-- Device `c` owes `O`, whatever it has waited on. -/
def owing (c : Dev nD) (O : CellTallies nD τ sig ℕ) : sProp 𝕄 := iprop(∃ W, owes (c : Thread nD τ) O W)

/-- Its send (receive) semaphore of chunk `k` has come to the chunk's round. -/
def posS (c : Dev nD) (k : ℕ) : sProp 𝕄 := iprop(atPos ER (sCell c k) (k / 2) ∅ 0 ∗ reached ER (sCell c k) (k / 2))
def posR (c : Dev nD) (k : ℕ) : sProp 𝕄 := iprop(atPos ER (rCell c k) (k / 4) ∅ 0 ∗ reached ER (rCell c k) (k / 4))
/-- The credit of chunk `k`'s transfer, at the sender and at the receiver. -/
def crS (c : Dev nD) (k : ℕ) : sProp 𝕄 := cred (tallyAt (sCell c k) 0 N)
def crR (c : Dev nD) (k : ℕ) : sProp 𝕄 := cred (tallyAt (rCell c k) k N)
/-- The duties device `c` pays when it sends chunk `k`. -/
def tok (c : Dev nD) (k : ℕ) : sProp 𝕄 := iprop(dutyTok ER (sCell c k) (k / 2) () ∗ dutyTok ER (rCell (peer c) k) (k / 4) ())
/-- The permit device `c` gives along with chunk `k`, for the chunk two later of its peer. -/
def pass (c : Dev nD) (k : ℕ) : sProp 𝕄 := if 2 ≤ k ∧ k < 30 then permit (F := F) (peer c) (k + 2) else iprop(emp)

variable (K : Dev nD × Fin 7 → ℕ)

/-- What every step may use. -/
def env (K : Dev nD × Fin 7 → ℕ) : sProp 𝕄 := iprop(records m K ∗ levAts Ls lv)
instance env_persistent : BI.Persistent (env m K) := by unfold env; infer_instance

variable {α : Type} {Q : α → sProp (MT nD τ sig ℕ (Elt F) ℕ UU ℕ)} {k : PUnit → Prog (TpuEff nD τ sig (Elt F) Λ₀ .tc) α} (c : Dev nD)

theorem posS_next (j : ℕ) : iprop(atPos ER (sCell c j) (j / 2 + 1) ∅ 0 ∗ reached ER (sCell c j) (j / 2 + 1))
    ⊢ (iprop(atPos ER (sCell c (j + 2)) ((j + 2) / 2) ∅ 0 ∗ reached ER (sCell c (j + 2)) ((j + 2) / 2)) : sProp 𝕄) := by
  rw [show sCell c (j + 2) = sCell c j from congrArg (fun q => ((c : Thread nD τ), SemLoc.dma q)) (sS_congr (by omega)),
    show (j + 2) / 2 = j / 2 + 1 by omega]
theorem posR_next (j : ℕ) : iprop(atPos ER (rCell c j) (j / 4 + 1) ∅ 0 ∗ reached ER (rCell c j) (j / 4 + 1))
    ⊢ (iprop(atPos ER (rCell c (j + 4)) ((j + 4) / 4) ∅ 0 ∗ reached ER (rCell c (j + 4)) ((j + 4) / 4)) : sProp 𝕄) := by
  rw [show rCell c (j + 4) = rCell c j from congrArg (fun q => ((c : Thread nD τ), SemLoc.dma q)) (rS_congr (by omega)),
    show (j + 4) / 4 = j / 4 + 1 by omega]

/-! ## The waits -/

/-- The wait for chunk `j` to have left: the send slot is free again. -/
theorem step_waitS {j : ℕ} (hj : j < 32) (t : ℕ) {sem : DmaSem sig} (hs : sem = sS j)
    {src : Memref sig .tc .vmem S2048x256 .bf16} {dst : Memref sig .tc .vmem S2048x256 .bf16} (hN : dst.view.dmaCredit = N)
    {h1 : src.view.WordExact} {h2 : dst.view.WordExact} :
    iprop(env m K ∗ posS c j ∗ crS c j ∗ owing c (Ow c t))
      ⊢ iprop(((posS c (j + 2) ∗ free (sSl j) c ∗ owing c (Ow c t)) -∗ run c (k ⟨⟩) Q)
          -∗ run c (.op (.waitDma2 sem src dst h1 h2) k) Q) := by
  subst hs
  unfold env posS crS owing
  iintro ⟨⟨#HR, #HL⟩, ⟨Hat, -⟩, Hc, ⟨%W, HO⟩⟩ Hk
  iapply (Rounds.wp_wait_rest_token 𝒱₀ ER (Rd m) (c : Thread nD τ) none (κ := K (c, kS j))
      (wpE_waitDma2_eq 𝒱₀ (c : Thread nD τ) none Set.univ) (Set.mem_univ _) 0 (O := Ow c t) (W := W) (R := j / 2) (m := 0) (T := ∅)
      (by rw [Nat.zero_add, hN]; exact (expect_s m c j hj).symm)) $$ [Hat Hc HO]
  · isplitr; · iapply (inv_s m K c j); iexact HR
    isplitl [Hc]; · rw [hN]; iexact Hc
    isplitl [HO]; · iexact HO
    isplitr; · iapply (mayWait_Ow c (.dma (sS j)) (u := 0) (by omega) t (by rw [lv_s]; omega)); iexact HL
    iexact Hat
  iintro ⟨HO, Hat, Hr, Hp⟩
  iapply Hk
  isplitl [Hat Hr]
  · iapply (posS_next c j); isplitl [Hat] <;> iassumption
  isplitl [Hp]
  · iapply (show _ ⊢ free (F := F) (sSl j) c from Entails.of_eq (rest_s m c j hj)); iexact Hp
  iexists _; iexact HO

/-- The wait for chunk `j` to have arrived: the receive slot holds the peer's part of it. -/
theorem step_waitR {j : ℕ} (hj : j < 32) {sem : DmaSem sig} (hs : sem = rS j)
    {src : Memref sig .tc .vmem S2048x256 .bf16} {dst : Memref sig .tc .vmem S2048x256 .bf16} (hN : dst.view.dmaCredit = N)
    {h1 : src.view.WordExact} {h2 : dst.view.WordExact} :
    iprop(env m K ∗ posR c j ∗ crR c j ∗ owing c (Ow c (j + 2)))
      ⊢ iprop(((posR c (j + 4) ∗ recvPay m c j ∗ owing c (Ow c (j + 2))) -∗ run c (k ⟨⟩) Q)
          -∗ run c (.op (.waitDma2 sem src dst h1 h2) k) Q) := by
  subst hs
  unfold env posR crR owing
  iintro ⟨⟨#HR, #HL⟩, ⟨Hat, -⟩, Hc, ⟨%W, HO⟩⟩ Hk
  iapply (Rounds.wp_wait_rest_token 𝒱₀ ER (Rd m) (c : Thread nD τ) none (κ := K (c, kR j))
      (wpE_waitDma2_eq 𝒱₀ (c : Thread nD τ) none Set.univ) (Set.mem_univ _) j (O := Ow c (j + 2)) (W := W) (R := j / 4) (m := 0) (T := ∅)
      (by rw [Nat.zero_add, hN]; exact (expect_r m c j hj).symm)) $$ [Hat Hc HO]
  · isplitr; · iapply (inv_r m K c j); iexact HR
    isplitl [Hc]; · rw [hN]; iexact Hc
    isplitl [HO]; · iexact HO
    isplitr; · iapply (mayWait_Ow c (.dma (rS j)) (u := j) (by omega) (j + 2) (by rw [lv_r]; omega)); iexact HL
    iexact Hat
  iintro ⟨HO, Hat, Hr, Hp⟩
  iapply Hk
  isplitl [Hat Hr]
  · iapply (posR_next c j); isplitl [Hat] <;> iassumption
  isplitl [Hp]
  · iapply (Entails.of_eq (rest_r m c j hj)); iexact Hp
  iexists _; iexact HO

/-! ## The send -/

/-- Sending chunk `t`: the send slot goes with the copy, the peer gets the chunk in its slot and the permit along. -/
theorem step_send {t : ℕ} (ht : t < 32) (n : Dev nD) (hn : n = peer c)
    {src : Memref sig .tc .vmem S2048x256 .bf16} (hsrc : src = sSl t)
    {dst : Memref sig (Dev.tc n : Thread nD τ).2.kind .vmem S2048x256 .bf16} (hdst : dst = rSl t)
    {s1 s2 : DmaSem sig} (h1 : s1 = sS t) (h2 : s2 = rS t) {hsc : dst.view.ref.isScScratch = false}
    {hw1 : src.view.WordExact} {hw2 : dst.view.WordExact}
    {hsem : DmaTarget.Typed .vmem (.dma s2) (.remote (Dev.tc n : Thread nD τ) dst (.dma s1) hsc)} :
    iprop(env m K ∗ slot (sSl t) c (sentPart m c t) ∗ permit c t ∗ pass c t ∗ owing c (Ow c t) ∗ tok c t ∗ posS c t)
      ⊢ iprop(((posS c t ∗ crS c t ∗ owing c (Ow c (t + 1))) -∗ run c (k ⟨⟩) Q)
          -∗ run c (.op (.enqueueDma src (.remote (Dev.tc n : Thread nD τ) dst (.dma s1) hsc) (.dma s2) hw1 hw2 hsem) k) Q) := by
  subst hn hsrc h1 h2 hdst
  unfold env slot permit free owing tok posS crS slot owns
  iintro ⟨⟨#HR, #HL⟩, ⟨%fs, %hfs, Hs⟩, ⟨⟨%X, Hd⟩, #Hrr⟩, HX, ⟨%W, HO⟩, ⟨Ht1, Ht2⟩, ⟨Hat, #Hrs⟩⟩ Hk
  icases Hd with ⟨%fd, -, Hd⟩
  iapply (Rounds.wp_send_pointsTo_with 𝒱₀ ER (Rd m) (c : Thread nD τ) none (κ₁ := K (c, kS t)) (κ₂ := K (peer c, kR t))
      (c' := (peer c : Thread nD τ)) (src := sSl t) (dst := rSl t) (sS := .dma (sS t)) (sem := .dma (rS t)) (r₁ := t / 2) (r₂ := t / 4) (d₁ := ()) (d₂ := ()) (fs := fs) (fd := fd) (F := pass c t)
      (by rw [duties_s m c t ht]; exact Finset.mem_singleton_self _) (by rw [duties_r m (peer c) t ht]; exact Finset.mem_singleton_self _)
      t 0 N (credit_r t) (amount_s m c t _) (amount_r m (peer c) t _) (Ow c (t + 1)) (Ow_succ c ht) (W := W)
      (by
        rw [payload_s]; unfold sendPay free slot owns
        iintro H; iexists _; iexists fs; isplitr; · (ipureintro; rfl)
        iexact H)
      (by
        rw [payload_r]; unfold recvPay slot owns pass
        iintro ⟨H, HX⟩
        isplitl [H]
        · iexists _; isplitr
          · ipureintro; exact Eq.trans (View.read_write_univ (v := (rSl t).view) fd _) (hfs.trans (by rw [peer_peer]))
          iexact H
        iexact HX)) $$ [Hs Hd HX HO Ht1 Ht2]
  · isplitr; · iapply (inv_s m K c t); iexact HR
    isplitr; · iapply (inv_r m K (peer c) t); iexact HR
    isplitl [Hs]; · iexact Hs
    isplitl [Hd HX]
    · isplitl [Hd]; · iexact Hd
      iexact HX
    isplitl [HO]; · iexact HO
    isplitl [Ht1]; · iexact Ht1
    isplitr; · iexact Hrs
    isplitl [Ht2]; · iexact Ht2
    iexact Hrr
  iintro ⟨Hc, HO⟩
  iapply Hk
  isplitl [Hat]
  · isplitl [Hat]; · iexact Hat
    iexact Hrs
  isplitl [Hc]; · iexact Hc
  iexists W; iexact HO

/-! ## The barrier -/

/-- The signal to the peer's barrier, handing it the device's four receive slots; -/
theorem step_signal (n : Dev nD) (hn : n = peer c) :
    iprop(env m K ∗ owing c (Ow₀ c) ∗ dutyTok ER (bCell (peer c)) 0 () ∗ barPay (F := F) (peer c))
      ⊢ iprop((owing c (Ow c 0) -∗ run c (k ⟨⟩) Q) -∗ run c (.op (.semSignal (Dev.tc n : Thread nD τ) barS 1) k) Q) := by
  subst hn
  unfold env owing
  iintro ⟨⟨#HR, #HL⟩, ⟨%W, HO⟩, Ht, Hp⟩ Hk
  iapply (Rounds.wp_signal 𝒱₀ ER (Rd m) (c : Thread nD τ) none (dst := (peer c : Thread nD τ)) (κ := K (peer c, 0))
      (r := 0) (d := ()) (by rw [duties_b]; exact Finset.mem_singleton_self _) (amount_b m (peer c)) 0 (Ow c 0) rfl (W := W)) $$ [HO Ht Hp]
  · isplitr; · iapply (inv_b m K (peer c)); iexact HR
    isplitl [HO]; · iexact HO
    isplitl [Ht]; · iexact Ht
    isplitl [Hp]; · rw [payload_b]; iexact Hp
    iapply (reached_b m K (peer c)); iexact HR
  iintro HO
  iapply Hk
  iexists W; iexact HO

/-- and the wait on its own, which gives it the peer's. -/
theorem step_waitB :
    iprop(env m K ∗ atPos ER (bCell c) 0 ∅ 0 ∗ cred (tallyAt (bCell c) 0 1) ∗ owing c (Ow c 0))
      ⊢ iprop(((atPos ER (bCell c) 1 ∅ 0 ∗ barPay (F := F) c ∗ owing c (Ow c 0)) -∗ run c (k ⟨⟩) Q)
          -∗ run c (.op (.semWait barS 1) k) Q) := by
  unfold env owing
  iintro ⟨⟨#HR, #HL⟩, Hat, Hc, ⟨%W, HO⟩⟩ Hk
  iapply (Rounds.wp_wait_rest_token 𝒱₀ ER (Rd m) (c : Thread nD τ) none (κ := K (c, 0))
      (wpE_semWait_eq 𝒱₀ (c : Thread nD τ) none Set.univ) (Set.mem_univ _) 0 (O := Ow c 0) (W := W) (R := 0) (m := 0) (T := ∅)
      (by rw [Nat.zero_add]; exact (expect_b m c).symm)) $$ [Hat Hc HO]
  · isplitr; · iapply (inv_b m K c); iexact HR
    isplitl [Hc]; · iexact Hc
    isplitl [HO]; · iexact HO
    isplitr; · iapply (mayWait_Ow c (.reg barS) (u := 0) (by omega) 0 (by rw [lv_b]; omega)); iexact HL
    iexact Hat
  iintro ⟨HO, Hat, -, Hp⟩
  iapply Hk
  isplitl [Hat]; · iexact Hat
  isplitl [Hp]
  · iapply (Entails.of_eq (rest_b m c)); iexact Hp
  iexists _; iexact HO

/-! ## Loads and stores -/

/-- A load through a memref that is owned. -/
theorem step_load {s : Shape} {e : EltTy} {M : Memref sig .tc .vmem s e} {q : PosShare TreeShare} {X : s.Idx → Elt F e} {r : LoadRect s} {hl : M.view.LoadsAt r}
    {k : (r.shape.Idx → Elt F e) → Prog (TpuEff nD τ sig (Elt F) Λ₀ .tc) α} :
    (owns (c : Thread nD τ) M q X : sProp 𝕄)
      ⊢ iprop((owns (c : Thread nD τ) M q X -∗ run c (k fun y => X (r.idx y)) Q) -∗ run c (.op (.load M r hl) k) Q) := by
  unfold owns
  iintro ⟨%f, %hf, H⟩ Hk
  iapply (wp_load 𝒱₀ (c : Thread nD τ) none Set.univ (m := M) (View.setOn_subset_set _ _)) $$ H
  iintro H
  rw [show M.view.readAt (Elt F) r f = fun y => X (r.idx y) by rw [← hf]; rfl]
  iapply Hk
  iexists f; isplitr; · (ipureintro; exact hf)
  iexact H

/-- A load of the whole of a memref reads what it holds. -/
theorem idx_whole {s : Shape} {off : Fin s.rank → ℕ} (h : off = fun _ => 0) (inb) (y : s.Idx) :
    (Rect.unit (s := s) off s.size inb).toLoadRect.idx y = y := by
  subst h; funext a; apply Fin.ext
  show 0 + 1 * (y a).val = (y a).val
  omega

/-- A load at chunk `j`'s offsets of the send buffer, the slot holding anything: nothing of what is read is used. -/
theorem step_loadS {j : ℕ} {off : Fin 3 → ℕ} (h : off = ![j % 2, 0, 0]) {inb : ∀ a, off a + S1x2048x256.size a ≤ S2x2048x256.size a} {hl}
    {k : (S1x2048x256.Idx → Elt F .bf16) → Prog (TpuEff nD τ sig (Elt F) Λ₀ .tc) α} :
    (free (sSl j) c : sProp 𝕄)
      ⊢ iprop((∀ v, free (sSl j) c -∗ run c (k v) Q) -∗
          run c (.op (.load sM (Rect.unit (s := S2x2048x256) off S1x2048x256.size inb).toLoadRect hl) k) Q) := by
  unfold free slot owns
  iintro ⟨%X, %f, %hf, H⟩ Hk
  iapply (wp_load 𝒱₀ (c : Thread nD τ) none Set.univ (m := sM) (S := (sSl j).view.set)
    (by rw [← sset j h inb]; exact (View.set_slice _ _).ge)) $$ H
  iintro H
  iapply Hk
  iexists X; iexists f; isplitr; · (ipureintro; exact hf)
  iexact H

/-- A store there: the slot holds what was stored, cast to its shape. -/
theorem step_storeS {j : ℕ} {off : Fin 3 → ℕ} (h : off = ![j % 2, 0, 0]) {inb : ∀ a, off a + S1x2048x256.size a ≤ S2x2048x256.size a}
    {w : S1x2048x256.Idx → Elt F .bf16} {hx hm} :
    (free (sSl j) c : sProp 𝕄)
      ⊢ iprop((slot (sSl j) c (shapeCast S2048x256 w shapeCasts_S1x2048x256_S2048x256) -∗ run c (k ⟨⟩) Q) -∗
          run c (.op (.store sM (Rect.unit (s := S2x2048x256) off S1x2048x256.size inb) w Finset.univ hx hm) k) Q) := by
  unfold free slot owns
  iintro ⟨%X, %f, %hf, H⟩ Hk
  iapply (wp_store 𝒱₀ (c : Thread nD τ) none Set.univ (m := sM) (r := Rect.unit (s := S2x2048x256) off S1x2048x256.size inb) (S := (sSl j).view.set)
    (by rw [View.setOn_univ]; exact (sset j h inb).le)) $$ H
  iintro H
  iapply Hk
  iexists _; isplitr; · (ipureintro; exact sstore j h inb f w)
  iexact H

/-- A load at chunk `j`'s offsets of the receive buffer reads, cast to the slot's shape, what the slot holds. -/
theorem step_loadR {j : ℕ} {X : Vec F S2048x256 .bf16} {off : Fin 3 → ℕ} (h : off = ![j % 4, 0, 0]) {inb : ∀ a, off a + S1x2048x256.size a ≤ S4x2048x256.size a} {hl}
    {k : (S1x2048x256.Idx → Elt F .bf16) → Prog (TpuEff nD τ sig (Elt F) Λ₀ .tc) α} :
    (slot (rSl j) c X : sProp 𝕄)
      ⊢ iprop((∀ v, ⌜shapeCast S2048x256 v shapeCasts_S1x2048x256_S2048x256 = X⌝ -∗ slot (rSl j) c X -∗ run c (k v) Q) -∗
          run c (.op (.load rM (Rect.unit (s := S4x2048x256) off S1x2048x256.size inb).toLoadRect hl) k) Q) := by
  unfold slot owns
  iintro ⟨%f, %hf, H⟩ Hk
  iapply (wp_load 𝒱₀ (c : Thread nD τ) none Set.univ (m := rM) (S := (rSl j).view.set)
    (by rw [← rset j h inb]; exact (View.set_slice _ _).ge)) $$ H
  iintro H
  iapply Hk $$ %_ []
  · ipureintro; exact (rload j h inb f).trans hf
  iexists f; isplitr; · (ipureintro; exact hf)
  iexact H

/-- The keep buffer, with contents satisfying `P`. -/
def keep (c : Dev nD) (P : kM.view.ty.Contents (Elt F) → Prop) : sProp 𝕄 :=
  iprop(∃ f, ⌜P f⌝ ∗ (kM.view.loc (c : Thread nD τ) ↦{fullShare} f))

/-- A load at chunk `j`'s offsets of it reads what the chunk's slot holds; -/
theorem step_loadK {j : ℕ} {P : kM.view.ty.Contents (Elt F) → Prop} {off : Fin 3 → ℕ} (h : off = ![j % 2, 0, 0])
    {inb : ∀ a, off a + S1x2048x256.size a ≤ S2x2048x256.size a} {hl}
    {k : (S1x2048x256.Idx → Elt F .f32) → Prog (TpuEff nD τ sig (Elt F) Λ₀ .tc) α} :
    (keep c P : sProp 𝕄)
      ⊢ iprop((∀ v, ⌜∃ f, P f ∧ shapeCast S2048x256 v shapeCasts_S1x2048x256_S2048x256 = (kSl j).view.read (Elt F) f⌝ -∗ keep c P -∗ run c (k v) Q) -∗
          run c (.op (.load kM (Rect.unit (s := S2x2048x256) off S1x2048x256.size inb).toLoadRect hl) k) Q) := by
  unfold keep
  iintro ⟨%f, %hf, H⟩ Hk
  iapply (wp_load 𝒱₀ (c : Thread nD τ) none Set.univ (m := kM) (Finset.subset_univ _)) $$ H
  iintro H
  iapply Hk $$ %_ []
  · ipureintro; exact ⟨f, hf, kload j h inb f⟩
  iexists f; isplitr; · (ipureintro; exact hf)
  iexact H

/-- and a store there leaves the other slot as it was. -/
theorem step_storeK {j : ℕ} {P P' : kM.view.ty.Contents (Elt F) → Prop} {off : Fin 3 → ℕ} (h : off = ![j % 2, 0, 0])
    {inb : ∀ a, off a + S1x2048x256.size a ≤ S2x2048x256.size a} {w : S1x2048x256.Idx → Elt F .f32} {hx hm}
    (hP : ∀ f g, P f → (kSl j).view.read (Elt F) g = shapeCast S2048x256 w shapeCasts_S1x2048x256_S2048x256
      → (∀ a, a % 2 ≠ j % 2 → (kSl a).view.read (Elt F) g = (kSl a).view.read (Elt F) f) → P' g) :
    (keep c P : sProp 𝕄)
      ⊢ iprop((keep c P' -∗ run c (k ⟨⟩) Q) -∗
          run c (.op (.store kM (Rect.unit (s := S2x2048x256) off S1x2048x256.size inb) w Finset.univ hx hm) k) Q) := by
  unfold keep
  iintro ⟨%f, %hf, H⟩ Hk
  iapply (wp_store 𝒱₀ (c : Thread nD τ) none Set.univ (m := kM) (r := Rect.unit (s := S2x2048x256) off S1x2048x256.size inb) (Finset.subset_univ _)) $$ H
  iintro H
  iapply Hk
  iexists _; isplitr; · (ipureintro; exact hP f _ hf (kstore j h inb f w) fun a ha => kother ha h inb f w)
  iexact H

/-- A store to the whole of a memref that is owned. -/
theorem step_store {s : Shape} {e : EltTy} {M : Memref sig .tc .vmem s e} {X : s.Idx → Elt F e} {off : Fin s.rank → ℕ} (h : off = fun _ => 0)
    {inb : ∀ a, off a + s.size a ≤ s.size a} {w : s.Idx → Elt F e} {hx hm} :
    (owns (c : Thread nD τ) M fullShare X : sProp 𝕄)
      ⊢ iprop((owns (c : Thread nD τ) M fullShare w -∗ run c (k ⟨⟩) Q) -∗
          run c (.op (.store M (Rect.unit (s := s) off s.size inb) w Finset.univ hx hm) k) Q) := by
  unfold owns
  iintro ⟨%f, %hf, H⟩ Hk
  iapply (wp_store 𝒱₀ (c : Thread nD τ) none Set.univ (m := M) (r := Rect.unit (s := s) off s.size inb) (S := M.view.set)
    (by rw [View.setOn_univ]; exact (View.set_slice _ _).trans_subset (View.setOn_subset_set _ _))) $$ H
  iintro H
  iapply Hk
  iexists _; isplitr
  · ipureintro; funext y
    conv_lhs => rw [← idx_whole h inb y]
    exact congrFun (View.read_write_univ (v := M.access (Rect.unit (s := s) off s.size inb)) f w) y
  iexact H

end Cert.Exchange
-- ==== Proof.Slots.lean ====
/-
# The buffers' slots: a whole buffer is its slots, free, and back
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

/-- A slot is free when its elements are held, at any contents. -/
theorem free_eq (M : Memref sig .tc .vmem S2048x256 .bf16) (c : Dev nD) :
    (free M c : sProp 𝕄) = iprop(∃ f, M.view.loc (c : Thread nD τ) ↦[M.view.set]{fullShare} f) := by
  have h₁ : (free M c : sProp 𝕄) ⊢ iprop(∃ f, M.view.loc (c : Thread nD τ) ↦[M.view.set]{fullShare} f) := by
    unfold free slot owns
    iintro ⟨%X, %f, -, H⟩; iexists f; iexact H
  have h₂ : (iprop(∃ f, M.view.loc (c : Thread nD τ) ↦[M.view.set]{fullShare} f) : sProp 𝕄) ⊢ free M c := by
    unfold free slot owns
    iintro ⟨%f, H⟩; iexists _; iexists f; isplitr; · (ipureintro; rfl)
    iexact H
  exact BI.equiv_iff.mp ⟨h₁, h₂⟩

theorem sSl_set (k : ℕ) : (sSl k).view.set = (rect2 k).set := by rw [← sset k rfl (inb2 k)]; exact View.set_slice_whole _ _
theorem rSl_set (k : ℕ) : (rSl k).view.set = (rect4 k).set := by rw [← rset k rfl (inb4 k)]; exact View.set_slice_whole _ _

theorem cover2 : (rect2 0).set ∪ (rect2 1).set = Finset.univ := by
  ext i; simp only [Finset.mem_union, Rect.mem_set_unit, Finset.mem_univ, iff_true]
  have h0 : (i 0).val < 2 := (i 0).isLt
  have h1 : (i 1).val < 2048 := (i 1).isLt
  have h2 : (i 2).val < 256 := (i 2).isLt
  rcases (by omega : (i 0).val = 0 ∨ (i 0).val = 1) with h | h
  · left; intro a; fin_cases a
    · show 0 ≤ (i 0).val ∧ (i 0).val < 0 + 1; omega
    · show 0 ≤ (i 1).val ∧ (i 1).val < 0 + 2048; omega
    · show 0 ≤ (i 2).val ∧ (i 2).val < 0 + 256; omega
  · right; intro a; fin_cases a
    · show 1 ≤ (i 0).val ∧ (i 0).val < 1 + 1; omega
    · show 0 ≤ (i 1).val ∧ (i 1).val < 0 + 2048; omega
    · show 0 ≤ (i 2).val ∧ (i 2).val < 0 + 256; omega

theorem cover4 : ((rect4 0).set ∪ (rect4 1).set) ∪ ((rect4 2).set ∪ (rect4 3).set) = Finset.univ := by
  ext i; simp only [Finset.mem_union, Rect.mem_set_unit, Finset.mem_univ, iff_true]
  have h0 : (i 0).val < 4 := (i 0).isLt
  have h1 : (i 1).val < 2048 := (i 1).isLt
  have h2 : (i 2).val < 256 := (i 2).isLt
  have key : ∀ k, k < 4 → (i 0).val = k → ∀ a, (![k % 4, 0, 0] : Fin 3 → ℕ) a ≤ (i a).val ∧ (i a).val < (![k % 4, 0, 0] : Fin 3 → ℕ) a + S1x2048x256.size a := by
    intro k hk h a; fin_cases a
    · show k % 4 ≤ (i 0).val ∧ (i 0).val < k % 4 + 1; omega
    · show 0 ≤ (i 1).val ∧ (i 1).val < 0 + 2048; omega
    · show 0 ≤ (i 2).val ∧ (i 2).val < 0 + 256; omega
  rcases (by omega : (i 0).val = 0 ∨ (i 0).val = 1 ∨ (i 0).val = 2 ∨ (i 0).val = 3) with h | h | h | h
  · exact .inl (.inl (key 0 (by omega) h))
  · exact .inl (.inr (key 1 (by omega) h))
  · exact .inr (.inl (key 2 (by omega) h))
  · exact .inr (.inr (key 3 (by omega) h))

theorem disj4 : Disjoint ((rect4 0).set ∪ (rect4 1).set) ((rect4 2).set ∪ (rect4 3).set) := by
  simp only [Finset.disjoint_union_left, Finset.disjoint_union_right]
  exact ⟨⟨rect4_disjoint (by decide), rect4_disjoint (by decide)⟩, rect4_disjoint (by decide), rect4_disjoint (by decide)⟩

/-- A buffer held whole, at any contents. -/
def whole (b : Ref sig .tc) (c : Dev nD) : sProp 𝕄 := iprop(∃ f : Buf (Elt F) ((c : Thread nD τ).loc b), ((c : Thread nD τ).loc b) ↦{fullShare} f)

/-- The send buffer is its two slots; -/
theorem send_slots (c : Dev nD) : (whole cc0_scratch0 c : sProp 𝕄) ⊢ iprop(free (sSl 0) c ∗ free (sSl 1) c) := by
  unfold whole; rw [free_eq, free_eq, sSl_set, sSl_set]
  iintro ⟨%f, H⟩
  rw [← cover2]
  ihave H := (pointsTo_union (ℓ := (c : Thread nD τ).loc cc0_scratch0) (rect2_disjoint (a := 0) (b := 1) (by decide))).1 $$ H
  icases H with ⟨H0, H1⟩
  isplitl [H0]
  · iexists f; iexact H0
  iexists f; iexact H1
theorem send_whole (c : Dev nD) : iprop(free (sSl 0) c ∗ free (sSl 1) c) ⊢ (whole cc0_scratch0 c : sProp 𝕄) := by
  unfold whole; rw [free_eq, free_eq, sSl_set, sSl_set]
  iintro ⟨⟨%f, H0⟩, ⟨%g, H1⟩⟩
  ihave H := (pointsTo_join (ℓ := (c : Thread nD τ).loc cc0_scratch0) (rect2_disjoint (a := 0) (b := 1) (by decide))) $$ [H0 H1]
  · isplitl [H0]; · iexact H0
    iexact H1
  iexists _; rw [← cover2]; iexact H

/-- the receive buffer its four. -/
theorem recv_slots (c : Dev nD) : (whole cc0_scratch1 c : sProp 𝕄) ⊢ iprop(free (rSl 0) c ∗ free (rSl 1) c ∗ free (rSl 2) c ∗ free (rSl 3) c) := by
  unfold whole; rw [free_eq, free_eq, free_eq, free_eq, rSl_set, rSl_set, rSl_set, rSl_set]
  iintro ⟨%f, H⟩
  rw [← cover4]
  ihave H := (pointsTo_union (ℓ := (c : Thread nD τ).loc cc0_scratch1) disj4).1 $$ H
  icases H with ⟨H01, H23⟩
  ihave H01 := (pointsTo_union (ℓ := (c : Thread nD τ).loc cc0_scratch1) (rect4_disjoint (a := 0) (b := 1) (by decide))).1 $$ H01
  ihave H23 := (pointsTo_union (ℓ := (c : Thread nD τ).loc cc0_scratch1) (rect4_disjoint (a := 2) (b := 3) (by decide))).1 $$ H23
  icases H01 with ⟨H0, H1⟩
  icases H23 with ⟨H2, H3⟩
  isplitl [H0]; · (iexists f; iexact H0)
  isplitl [H1]; · (iexists f; iexact H1)
  isplitl [H2]; · (iexists f; iexact H2)
  iexists f; iexact H3
theorem recv_whole (c : Dev nD) : iprop(free (rSl 0) c ∗ free (rSl 1) c ∗ free (rSl 2) c ∗ free (rSl 3) c) ⊢ (whole cc0_scratch1 c : sProp 𝕄) := by
  unfold whole; rw [free_eq, free_eq, free_eq, free_eq, rSl_set, rSl_set, rSl_set, rSl_set]
  iintro ⟨⟨%f0, H0⟩, ⟨%f1, H1⟩, ⟨%f2, H2⟩, ⟨%f3, H3⟩⟩
  ihave H01 := (pointsTo_join (ℓ := (c : Thread nD τ).loc cc0_scratch1) (rect4_disjoint (a := 0) (b := 1) (by decide))) $$ [H0 H1]
  · isplitl [H0]; · iexact H0
    iexact H1
  ihave H23 := (pointsTo_join (ℓ := (c : Thread nD τ).loc cc0_scratch1) (rect4_disjoint (a := 2) (b := 3) (by decide))) $$ [H2 H3]
  · isplitl [H2]; · iexact H2
    iexact H3
  ihave H := (pointsTo_join (ℓ := (c : Thread nD τ).loc cc0_scratch1) disj4) $$ [H01 H23]
  · isplitl [H01]; · iexact H01
    iexact H23
  iexists _; rw [← cover4]; iexact H

end Cert.Exchange
-- ==== Proof.Parts.lean ====
/-
# The parts of a grid step: the products and the send, the drain, the arrival
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

variable (K : Dev nD × Fin 7 → ℕ) (c : Dev nD)
variable {α : Type} {Q : α → sProp (MT nD τ sig ℕ (Elt F) ℕ UU ℕ)} {k : PUnit → Prog (TpuEff nD τ sig (Elt F) Λ₀ .tc) α}

theorem hz2 : (![0, 0] : Fin 2 → ℕ) = fun _ => 0 := funext fun a => by fin_cases a <;> rfl

/-! ## Sequencing -/

/-- A device reads its own index. -/
theorem run_deviceId {R : sProp 𝕄} {k : Dev nD → Prog (TpuEff nD τ sig (Elt F) Λ₀ .tc) PUnit} {Q : PUnit → sProp 𝕄}
    (h : R ⊢ run c (k c) Q) : R ⊢ run c (.op .deviceId k) Q := by
  unfold run
  rw [wp_deviceId]
  exact h

/-- A conditional runs as the branch its condition takes. -/
theorem run_ite {P : Prop} {hD : Decidable P} {R : sProp 𝕄} {A : P → Prog (TpuEff nD τ sig (Elt F) Λ₀ .tc) PUnit} {Q : PUnit → sProp 𝕄}
    {B : ¬ P → Prog (TpuEff nD τ sig (Elt F) Λ₀ .tc) PUnit}
    (h : (hP : P) → R ⊢ run c (A hP) Q) (h' : (hP : ¬ P) → R ⊢ run c (B hP) Q) : R ⊢ run c (dite P A B) Q := by
  by_cases hP : P
  · rw [dif_pos hP]; exact h hP
  · rw [dif_neg hP]; exact h' hP

/-! ## The states of the keep buffer -/

/-- Before step `t` the keep buffer holds the chunk just computed; after its products also the one before. -/
def keptPrev (t : ℕ) (f : kM.view.ty.Contents (Elt F)) : Prop := 1 ≤ t → (kSl (t - 1)).view.read (Elt F) f = keepPart m c (t - 1)
def keptBoth (t : ℕ) (f : kM.view.ty.Contents (Elt F)) : Prop :=
  (t < 32 → (kSl t).view.read (Elt F) f = keepPart m c t) ∧ keptPrev m c t f

/-! ## The products and the send -/

/-- At step `t` the device multiplies one half of its rows' columns into the send slot and sends it, the other half into
    the keep slot. -/
theorem seg_send {t : ℕ} (ht : t < 32) {a1 : Memref sig .tc .vmem S4096x4096 .bf16} {a2 : Memref sig .tc .vmem S4096x256 .bf16}
    {offA offB : Fin 2 → ℕ} {inbA : ∀ a, offA a + S4096x2048.size a ≤ S4096x4096.size a} {inbB : ∀ a, offB a + S4096x2048.size a ≤ S4096x4096.size a}
    {inb2 inb2' : ∀ a, (![0, 0] : Fin 2 → ℕ) a + S4096x256.size a ≤ S4096x256.size a}
    {offS : Fin 3 → ℕ} (hoffS : offS = ![t % 2, 0, 0]) {inbS inbS' : ∀ a, offS a + S1x2048x256.size a ≤ S2x2048x256.size a}
    {pay : Vec F S4096x2048 .bf16 → Vec F S4096x256 .bf16 → Vec F S1x2048x256 .bf16} {pay' : Vec F S4096x2048 .bf16 → Vec F S4096x256 .bf16 → Vec F S1x2048x256 .f32}
    (hpay : shapeCast S2048x256 (pay (fun y => xBlk m c ((Rect.unit (s := S4096x4096) offA S4096x2048.size inbA).toLoadRect.idx y)) (dyBlk m c t)) shapeCasts_S1x2048x256_S2048x256 = sentPart m c t)
    (hpay' : shapeCast S2048x256 (pay' (fun y => xBlk m c ((Rect.unit (s := S4096x4096) offB S4096x2048.size inbB).toLoadRect.idx y)) (dyBlk m c t)) shapeCasts_S1x2048x256_S2048x256 = keepPart m c t)
    {l1 l2 l3 l4 l5 l6 hx1 hm1 hx2 hm2}
    (n : Dev nD) (hn : n = peer c) {src : Memref sig .tc .vmem S2048x256 .bf16} (hsrc : src = sSl t)
    {dst : Memref sig (Dev.tc n : Thread nD τ).2.kind .vmem S2048x256 .bf16} (hdst : dst = rSl t)
    {s1 s2 : DmaSem sig} (h1 : s1 = sS t) (h2 : s2 = rS t) {hsc : dst.view.ref.isScScratch = false}
    {hw1 : src.view.WordExact} {hw2 : dst.view.WordExact}
    {hsem : DmaTarget.Typed .vmem (.dma s2) (.remote (Dev.tc n : Thread nD τ) dst (.dma s1) hsc)} :
    iprop(env m K ∗ owns (c : Thread nD τ) a1 fullShare (xBlk m c) ∗ owns (c : Thread nD τ) a2 fullShare (dyBlk m c t)
        ∗ free (sSl t) c ∗ posS c t ∗ permit c t ∗ pass c t ∗ tok c t ∗ keep c (keptPrev m c t) ∗ owing c (Ow c t))
      ⊢ iprop(((owns (c : Thread nD τ) a1 fullShare (xBlk m c) ∗ owns (c : Thread nD τ) a2 fullShare (dyBlk m c t)
          ∗ posS c t ∗ crS c t ∗ keep c (keptBoth m c t) ∗ owing c (Ow c (t + 1))) -∗ run c (k ⟨⟩) Q)
        -∗ run c (.op (.load a1 (Rect.unit (s := S4096x4096) offA S4096x2048.size inbA).toLoadRect l1) fun v33 =>
            .op (.load a2 (Rect.unit (s := S4096x256) ![0, 0] S4096x256.size inb2).toLoadRect l2) fun v35 =>
            .op (.load sM (Rect.unit (s := S2x2048x256) offS S1x2048x256.size inbS).toLoadRect l3) fun _ =>
            .op (.store sM (Rect.unit (s := S2x2048x256) offS S1x2048x256.size inbS) (pay v33 v35) Finset.univ hx1 hm1) fun _ =>
            .op (.enqueueDma src (.remote (Dev.tc n : Thread nD τ) dst (.dma s1) hsc) (.dma s2) hw1 hw2 hsem) fun _ =>
            .op (.load a1 (Rect.unit (s := S4096x4096) offB S4096x2048.size inbB).toLoadRect l4) fun v57 =>
            .op (.load a2 (Rect.unit (s := S4096x256) ![0, 0] S4096x256.size inb2').toLoadRect l5) fun v59 =>
            .op (.load kM (Rect.unit (s := S2x2048x256) offS S1x2048x256.size inbS').toLoadRect l6) fun _ =>
            .op (.store kM (Rect.unit (s := S2x2048x256) offS S1x2048x256.size inbS') (pay' v57 v59) Finset.univ hx2 hm2) k) Q) := by
  have hdy : (fun y => dyBlk m c t ((Rect.unit (s := S4096x256) ![0, 0] S4096x256.size inb2).toLoadRect.idx y)) = dyBlk m c t :=
    funext fun y => congrArg _ (idx_whole hz2 _ y)
  have hpayA : shapeCast S2048x256 (pay (fun y => xBlk m c ((Rect.unit (s := S4096x4096) offA S4096x2048.size inbA).toLoadRect.idx y))
      (fun y => dyBlk m c t ((Rect.unit (s := S4096x256) ![0, 0] S4096x256.size inb2).toLoadRect.idx y))) shapeCasts_S1x2048x256_S2048x256 = sentPart m c t :=
    (congrArg (fun d => shapeCast S2048x256 (pay _ d) shapeCasts_S1x2048x256_S2048x256) hdy).trans hpay
  iintro ⟨#HE, H1, H2, Hs, Hat, Hp, HX, Ht, HK, HO⟩ Hk
  iapply (step_load c) $$ H1
  iintro H1
  iapply (step_load c) $$ H2
  iintro H2
  iapply (step_loadS c hoffS) $$ Hs
  iintro %v Hs
  iapply (step_storeS c hoffS) $$ Hs
  iintro Hs
  iapply (step_send m K c ht n hn hsrc hdst h1 h2) $$ [Hs Hat Hp HX Ht HO]
  · isplitr; · iexact HE
    isplitl [Hs]; · iapply (show _ ⊢ slot (sSl t) c (sentPart m c t) from Entails.of_eq (congrArg (slot (sSl t) c) hpayA)); iexact Hs
    isplitl [Hp]; · iexact Hp
    isplitl [HX]; · iexact HX
    isplitl [HO]; · iexact HO
    isplitl [Ht] <;> iassumption
  iintro ⟨Hat, Hc, HO⟩
  iapply (step_load c) $$ H1
  iintro H1
  iapply (step_load c) $$ H2
  iintro H2
  iapply (step_loadK c hoffS) $$ HK
  iintro %v' - HK
  iapply (step_storeK c (P' := keptBoth m c t) hoffS ?_) $$ HK
  · intro f g hf hg ho
    refine ⟨fun _ => hg.trans ((congrArg (fun d => shapeCast S2048x256 (pay' _ d) shapeCasts_S1x2048x256_S2048x256) hdy).trans hpay'), fun h => ?_⟩
    exact (ho (t - 1) (by omega)).trans (hf h)
  iintro HK
  iapply Hk
  isplitl [H1]; · iexact H1
  isplitl [H2]; · iexact H2
  isplitl [Hat]; · iexact Hat
  isplitl [Hc]; · iexact Hc
  isplitl [HK] <;> iassumption

/-! ## The arrival -/

/-- From step 1 on the device waits for the previous chunk to arrive and stores its sum with the chunk kept. -/
theorem seg_recv {t : ℕ} (h0 : 1 ≤ t) (ht : t ≤ 32) {a3 : Memref sig .tc .vmem S2048x256 .f32} {X : Vec F S2048x256 .f32}
    {sem : DmaSem sig} (hs : sem = rS (t - 1))
    {src : Memref sig .tc .vmem S2048x256 .bf16} {dst : Memref sig .tc .vmem S2048x256 .bf16} (hN : dst.view.dmaCredit = N)
    {h1 : src.view.WordExact} {h2 : dst.view.WordExact}
    {offK offR : Fin 3 → ℕ} (hoffK : offK = ![(t - 1) % 2, 0, 0]) (hoffR : offR = ![(t - 1) % 4, 0, 0])
    {inbK : ∀ a, offK a + S1x2048x256.size a ≤ S2x2048x256.size a} {inbR : ∀ a, offR a + S1x2048x256.size a ≤ S4x2048x256.size a}
    {inb3 : ∀ a, (![0, 0] : Fin 2 → ℕ) a + S2048x256.size a ≤ S2048x256.size a} {l1 l2 l3 hx hm} :
    iprop(env m K ∗ posR c (t - 1) ∗ crR c (t - 1) ∗ keep c (keptBoth m c t) ∗ owns (c : Thread nD τ) a3 fullShare X ∗ owing c (Ow c (t + 1)))
      ⊢ iprop(((posR c (t - 1 + 4) ∗ recvPay m c (t - 1) ∗ keep c (keptBoth m c t) ∗ owns (c : Thread nD τ) a3 fullShare (outAt m c (t - 1)) ∗ owing c (Ow c (t + 1))) -∗ run c (k ⟨⟩) Q)
        -∗ run c (.op (.waitDma2 sem src dst h1 h2) fun _ =>
            .op (.load kM (Rect.unit (s := S2x2048x256) offK S1x2048x256.size inbK).toLoadRect l1) fun v40 =>
            .op (.load rM (Rect.unit (s := S4x2048x256) offR S1x2048x256.size inbR).toLoadRect l2) fun v43 =>
            .op (.load a3 (Rect.unit (s := S2048x256) ![0, 0] S2048x256.size inb3).toLoadRect l3) fun _ =>
            .op (.store a3 (Rect.unit (s := S2048x256) ![0, 0] S2048x256.size inb3) (k0_pay5 v40 v43) Finset.univ hx hm) k) Q) := by
  obtain ⟨j, rfl⟩ : ∃ j, t = j + 1 := ⟨t - 1, by omega⟩
  simp only [Nat.add_sub_cancel] at hs hoffK hoffR ⊢
  iintro ⟨#HE, Hat, Hc, HK, H3, HO⟩ Hk
  iapply (step_waitR m K c (j := j) (by omega) hs hN) $$ [Hat Hc HO]
  · isplitr; · iexact HE
    isplitl [Hat]; · iexact Hat
    isplitl [Hc] <;> iassumption
  iintro ⟨Hat, Hp, HO⟩
  unfold recvPay
  icases Hp with ⟨Hs, Hp⟩
  iapply (step_loadK c hoffK) $$ HK
  iintro %v %hv HK
  iapply (step_loadR c hoffR) $$ Hs
  iintro %w %hw Hs
  iapply (step_load c) $$ H3
  iintro H3
  iapply (step_store c hz2) $$ H3
  iintro H3
  rw [show k0_pay5 v w = outAt m c j by
    obtain ⟨f, hf, hv⟩ := hv
    rw [pay5_eq, hw]
    exact congrArg (fun d => addf d (extf .f32 (sentPart m (peer c) j : FVec F S2048x256 .bf16) bitsLt_bf16_f32)) (hv.trans (hf.2 (by omega)))]
  iapply Hk
  isplitl [Hat]; · iexact Hat
  isplitl [Hs Hp]; · isplitl [Hs] <;> iassumption
  isplitl [HK]; · iexact HK
  isplitl [H3] <;> iassumption

end Cert.Exchange
-- ==== Proof.Body.lean ====
/-
# The body of the kernel, at every grid step
-/
module

public import proofs.«01_k».proof.Proof.Parts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

variable (K : Dev nD × Fin 7 → ℕ) (c : Dev nD)

/-! ## What a device holds between steps -/

/-- Send semaphore and slot of chunk `j`, before the wait for chunk `j - 2`; and after it. -/
def ready (j : ℕ) : sProp 𝕄 := iprop(free (sSl j) c ∗ posS c j)
def tick (j : ℕ) : sProp 𝕄 := if j < 2 then ready (F := F) c j else iprop(crS c (j - 2) ∗ posS c (j - 2))
/-- The four receive semaphores, the next to be waited on first. -/
def ring (n : ℕ) : sProp 𝕄 := iprop(posR c n ∗ posR c (n + 1) ∗ posR c (n + 2) ∗ posR c (n + 3))
/-- The device's own receive slots it has read and not given back: the last one read, and the last four at the end. -/
def spent (t : ℕ) : sProp 𝕄 := bigSep (Finset.Ico 28 t) fun k => free (F := F) (rSl k) c
def ownF (t : ℕ) : sProp 𝕄 := iprop((if 2 ≤ t then free (F := F) (rSl (t - 2)) c else emp) ∗ spent (F := F) c (t - 2))
/-- The chunks it may send. -/
def permits (a t : ℕ) : sProp 𝕄 := bigSep (Finset.Ico a (min 32 (max 4 (t + 1)))) (permit (F := F) c)
def crs (t : ℕ) : sProp 𝕄 := bigSep (Finset.Ico t 32) (crR (F := F) c)
def toks (t : ℕ) : sProp 𝕄 := bigSep (Finset.Ico t 32) (tok (F := F) c)

/-- After the barrier and before the sending part of step `t`. -/
def Lin (t : ℕ) : sProp 𝕄 :=
  iprop(atPos ER (bCell c) 1 ∅ 0 ∗ (tick c t ∗ tick c (t + 1)) ∗ ring c (t - 1) ∗ ownF c t ∗ permits c t t ∗ crs c (t - 1) ∗ toks c t ∗ keep c (keptPrev m c t))
/-- Before the barrier. -/
def Lin0 : sProp 𝕄 :=
  iprop(atPos ER (bCell c) 0 ∅ 0 ∗ cred (tallyAt (bCell c) 0 1) ∗ dutyTok ER (bCell (peer c)) 0 () ∗ (free (rSl 0) c ∗ free (rSl 1) c ∗ free (rSl 2) c ∗ free (rSl 3) c)
    ∗ (tick c 0 ∗ tick c 1) ∗ ring c 0 ∗ crs c 0 ∗ toks c 0 ∗ keep c (keptPrev m c 0))
/-- At the end: the buffers whole, the semaphores' counters at zero. -/
def LinEnd : sProp 𝕄 :=
  iprop((whole cc0_scratch0 c ∗ whole cc0_scratch1 c ∗ whole cc0_scratch2 c)
    ∗ semVal (bCell c) 0 ∗ semVal (sCell c 0) 0 ∗ semVal (sCell c 1) 0 ∗ semVal (rCell c 0) 0 ∗ semVal (rCell c 1) 0 ∗ semVal (rCell c 2) 0 ∗ semVal (rCell c 3) 0)

/-- The invariant before step `t`, and what is owed there. -/
def Phi (t : ℕ) : sProp 𝕄 := if t = 0 then Lin0 m c else if t ≤ 32 then Lin m c t else LinEnd c
def owedAt (t : ℕ) : CellTallies nD τ sig ℕ := if t = 0 then Ow₀ c else Ow c t

/-- After the sending part of step `t`; `s` is what it holds of the send slots. -/
def Mid (t : ℕ) (s : sProp 𝕄) : sProp 𝕄 :=
  iprop(atPos ER (bCell c) 1 ∅ 0 ∗ s ∗ ring c (t - 1) ∗ spent c (t - 1) ∗ permits c (t + 1) t ∗ crs c (t - 1) ∗ toks c (t + 1) ∗ keep c (keptBoth m c t))
def sends (t : ℕ) : sProp 𝕄 := if t < 32 then iprop(tick c (t + 1) ∗ tick c (t + 2)) else iprop(tick (F := F) c 32 ∗ tick c 33)
def sends' (t : ℕ) : sProp 𝕄 := if t < 32 then iprop(tick c (t + 1) ∗ tick c (t + 2)) else iprop(ready (F := F) c 32 ∗ ready c 33)
/-- After step `t`. -/
def Fin' (t : ℕ) : sProp 𝕄 :=
  iprop(atPos ER (bCell c) 1 ∅ 0 ∗ sends' c t ∗ ring c t ∗ ownF c (t + 1) ∗ permits c (t + 1) (t + 1) ∗ crs c t ∗ toks c (t + 1) ∗ keep c (keptBoth m c t))

/-- The staging buffers of the operands. -/
def ins (t : ℕ) (a1 : Memref sig .tc .vmem S4096x4096 .bf16) (a2 : Memref sig .tc .vmem S4096x256 .bf16) : sProp 𝕄 :=
  iprop(owns (c : Thread nD τ) a1 fullShare (xBlk m c) ∗ owns (c : Thread nD τ) a2 fullShare (dyBlk m c t))

variable (t : Fin grid0.N) {a1 : Memref sig .tc .vmem S4096x4096 .bf16} (h1 : a1.IsWhole) {a2 : Memref sig .tc .vmem S4096x256 .bf16} (h2 : a2.IsWhole)
  {a3 : Memref sig .tc .vmem S2048x256 .f32} (h3 : a3.IsWhole) {X : Vec F S2048x256 .f32}

/-! ## Passing between the states -/

theorem tick_ready {j : ℕ} (h : j < 2) : (tick c j : sProp 𝕄) = ready c j := if_pos h
theorem tick_wait (j : ℕ) : (tick c (j + 2) : sProp 𝕄) = iprop(crS c j ∗ posS c j) := if_neg (by omega)

/-- What is left at step `t` beside what the sending part takes. -/
def Rem (t : ℕ) : sProp 𝕄 :=
  iprop(atPos ER (bCell c) 1 ∅ 0 ∗ tick c (t + 1) ∗ ring c (t - 1) ∗ spent c (t - 1) ∗ permits c (t + 1) t ∗ crs c (t - 1) ∗ toks c (t + 1))

/-- After the wait of step `t` for its send slot. -/
def LinR (t : ℕ) : sProp 𝕄 :=
  iprop(atPos ER (bCell c) 1 ∅ 0 ∗ (ready c t ∗ tick c (t + 1)) ∗ ring c (t - 1) ∗ ownF c t ∗ permits c t t ∗ crs c (t - 1) ∗ toks c t ∗ keep c (keptPrev m c t))

/-- A slot read and no longer needed goes along as the permit, or is kept. -/
theorem ownF_pass (t : ℕ) (ht : t < 32) :
    iprop(ownF (F := F) c t ∗ ring c (t - 1)) ⊢ iprop(pass c t ∗ spent c (t - 1) ∗ ring c (t - 1)) := by
  unfold ownF pass ring
  by_cases h : 2 ≤ t ∧ t < 30
  · rw [if_pos h, if_pos h.1]
    unfold permit posR spent
    rw [Finset.Ico_eq_empty (by omega), Finset.Ico_eq_empty (by omega), bigSep_empty, peer_peer, rSl_congr (a := t + 2) (b := t - 2) (by omega),
      show t - 1 + 3 = t + 2 by omega]
    iintro ⟨⟨Hf, -⟩, H0, H1, H2, Hat, #Hr⟩
    isplitl [Hf]
    · isplitl [Hf]; · iexact Hf
      iexact Hr
    isplitr; · iempintro
    isplitl [H0]; · iexact H0
    isplitl [H1]; · iexact H1
    isplitl [H2]; · iexact H2
    isplitl [Hat]; · iexact Hat
    iexact Hr
  · rw [if_neg h]
    by_cases h2 : 2 ≤ t
    · rw [if_pos h2]
      unfold spent
      rw [show t - 1 = (t - 2) + 1 by omega, bigSep_Ico_succ_top (by omega)]
      iintro ⟨⟨Hf, Hs⟩, H⟩
      isplitr; · iempintro
      isplitr [H]
      · isplitl [Hf] <;> iassumption
      iexact H
    · rw [if_neg h2, show t - 2 = 0 by omega]
      unfold spent
      rw [Finset.Ico_eq_empty (by omega), Finset.Ico_eq_empty (by omega), bigSep_empty]
      iintro ⟨-, H⟩
      isplitr; · iempintro
      isplitr; · iempintro
      iexact H

theorem pre_send (t : ℕ) (ht : t < 32) :
    LinR m c t ⊢ iprop((free (sSl t) c ∗ posS c t ∗ permit c t ∗ pass c t ∗ tok c t ∗ keep c (keptPrev m c t)) ∗ Rem (F := F) c t) := by
  unfold LinR Rem ready permits toks
  rw [bigSep_Ico_succ_bot (a := t) (b := min 32 (max 4 (t + 1))) (by omega), bigSep_Ico_succ_bot (a := t) (b := 32) ht]
  iintro ⟨Hb, ⟨⟨Hs, Hat⟩, Ht⟩, Hr, Ho, ⟨Hp, Hps⟩, Hc, ⟨Htk, Htks⟩, HK⟩
  ihave H := (ownF_pass c t ht) $$ [Ho Hr]
  · isplitl [Ho] <;> iassumption
  icases H with ⟨HX, Ho, Hr⟩
  isplitl [Hs Hat Hp HX Htk HK]
  · isplitl [Hs]; · iexact Hs
    isplitl [Hat]; · iexact Hat
    isplitl [Hp]; · iexact Hp
    isplitl [HX]; · iexact HX
    isplitl [Htk] <;> iassumption
  isplitl [Hb]; · iexact Hb
  isplitl [Ht]; · iexact Ht
  isplitl [Hr]; · iexact Hr
  isplitl [Ho]; · iexact Ho
  isplitl [Hps]; · iexact Hps
  isplitl [Hc] <;> iassumption

theorem post_send (t : ℕ) (ht : t < 32) :
    iprop(Rem (F := F) c t ∗ posS c t ∗ crS c t ∗ keep c (keptBoth m c t)) ⊢ Mid m c t (sends c t) := by
  unfold Rem Mid sends
  rw [if_pos ht, tick_wait]
  iintro ⟨⟨Hb, Ht, Hr, Ho, Hps, Hc, Htks⟩, Hat, Hcr, HK⟩
  isplitl [Hb]; · iexact Hb
  isplitl [Ht Hat Hcr]
  · isplitl [Ht]; · iexact Ht
    isplitl [Hcr] <;> iassumption
  isplitl [Hr]; · iexact Hr
  isplitl [Ho]; · iexact Ho
  isplitl [Hps]; · iexact Hps
  isplitl [Hc]; · iexact Hc
  isplitl [Htks] <;> iassumption

/-- The last step sends nothing. -/
theorem mid_last : Lin m c 32 ⊢ Mid m c 32 (sends c 32) := by
  unfold Lin Mid sends ownF permits toks
  rw [if_neg (show ¬ 32 < 32 by omega), if_pos (show 2 ≤ 32 by omega), Finset.Ico_eq_empty (a := 32) (by omega), Finset.Ico_eq_empty (a := 33) (by omega)]
  unfold spent
  rw [show 32 - 1 = (32 - 2) + 1 from rfl, bigSep_Ico_succ_top (a := 28) (b := 32 - 2) (by omega)]
  iintro ⟨Hb, Hs, Hr, Ho, Hp, Hc, Ht, HK⟩
  isplitl [Hb]; · iexact Hb
  isplitl [Hs]; · iexact Hs
  isplitl [Hr]; · iexact Hr
  isplitl [Ho]; · iexact Ho
  isplitl [Hp]; · iexact Hp
  isplitl [Hc]; · iexact Hc
  isplitl [Ht]; · iexact Ht
  unfold keep
  icases HK with ⟨%f, %hf, HK⟩
  iexists f; isplitr
  · ipureintro; exact ⟨fun h => absurd h (by omega), hf⟩
  iexact HK

/-- Step `t`'s arrival takes the oldest receive semaphore and its credit; -/
theorem pre_recv (t : ℕ) (h1 : 1 ≤ t) (ht : t ≤ 32) (s : sProp 𝕄) :
    Mid m c t s ⊢ iprop((posR c (t - 1) ∗ crR c (t - 1) ∗ keep c (keptBoth m c t))
      ∗ atPos ER (bCell c) 1 ∅ 0 ∗ s ∗ (posR c (t - 1 + 1) ∗ posR c (t - 1 + 2) ∗ posR c (t - 1 + 3)) ∗ spent c (t - 1) ∗ permits c (t + 1) t ∗ crs c t ∗ toks c (t + 1)) := by
  unfold Mid ring crs
  rw [bigSep_Ico_succ_bot (a := t - 1) (b := 32) (by omega), show t - 1 + 1 = t by omega]
  iintro ⟨Hb, Hs, ⟨H0, Hr⟩, Ho, Hp, ⟨Hc, Hcs⟩, Ht, HK⟩
  isplitl [H0 Hc HK]
  · isplitl [H0]; · iexact H0
    isplitl [Hc] <;> iassumption
  isplitl [Hb]; · iexact Hb
  isplitl [Hs]; · iexact Hs
  isplitl [Hr]; · iexact Hr
  isplitl [Ho]; · iexact Ho
  isplitl [Hp]; · iexact Hp
  isplitl [Hcs] <;> iassumption

/-- and gives the slot read and the permit that came along. -/
theorem permits_next (t : ℕ) (h1 : 1 ≤ t) (ht : t ≤ 32) :
    iprop(permits (F := F) c (t + 1) t ∗ (if 2 ≤ t - 1 ∧ t - 1 < 30 then permit (F := F) c (t - 1 + 2) else emp)) ⊢ permits (F := F) c (t + 1) (t + 1) := by
  unfold permits
  by_cases h : 2 ≤ t - 1 ∧ t - 1 < 30
  · rw [if_pos h, show min 32 (max 4 (t + 1)) = t + 1 by omega, show min 32 (max 4 (t + 1 + 1)) = (t + 1) + 1 by omega, bigSep_Ico_one, Finset.Ico_self, bigSep_empty,
      show t - 1 + 2 = t + 1 by omega]
    iintro ⟨-, H⟩; iexact H
  · rw [if_neg h]
    by_cases h3 : t < 3
    · rw [show min 32 (max 4 (t + 1)) = 4 by omega, show min 32 (max 4 (t + 1 + 1)) = 4 by omega]
      iintro ⟨H, -⟩; iexact H
    · rw [Finset.Ico_eq_empty (a := t + 1) (by omega), Finset.Ico_eq_empty (a := t + 1) (by omega)]
      iintro ⟨H, -⟩; iexact H

theorem post_recv (t : ℕ) (h1 : 1 ≤ t) (ht : t ≤ 32) :
    iprop((posR c (t - 1 + 4) ∗ recvPay m c (t - 1) ∗ keep c (keptBoth m c t))
      ∗ atPos ER (bCell c) 1 ∅ 0 ∗ sends' c t ∗ (posR c (t - 1 + 1) ∗ posR c (t - 1 + 2) ∗ posR c (t - 1 + 3)) ∗ spent c (t - 1) ∗ permits c (t + 1) t ∗ crs c t ∗ toks c (t + 1))
      ⊢ Fin' m c t := by
  unfold Fin' ring ownF recvPay
  rw [if_pos (by omega : 2 ≤ t + 1), show t + 1 - 2 = t - 1 by omega, show t - 1 + 4 = t + 3 by omega, show t - 1 + 3 = t + 2 by omega, show t - 1 + 2 = t + 1 by omega,
    show t - 1 + 1 = t by omega]
  iintro ⟨⟨H3, ⟨Hs, HP⟩, HK⟩, Hb, Hss, ⟨H0, H1, H2⟩, Ho, Hp, Hc, Ht⟩
  isplitl [Hb]; · iexact Hb
  isplitl [Hss]; · iexact Hss
  isplitl [H0 H1 H2 H3]
  · isplitl [H0]; · iexact H0
    isplitl [H1]; · iexact H1
    isplitl [H2] <;> iassumption
  isplitl [Hs Ho]
  · isplitl [Hs]; · unfold free; iexists _; iexact Hs
    iexact Ho
  isplitl [Hp HP]
  · iapply (show iprop(permits (F := F) c (t + 1) t ∗ (if 2 ≤ t - 1 ∧ t - 1 < 30 then permit (F := F) c (t + 1) else emp)) ⊢ permits (F := F) c (t + 1) (t + 1) by
      have := permits_next (F := F) c t h1 ht
      rwa [show t - 1 + 2 = t + 1 by omega] at this)
    isplitl [Hp] <;> iassumption
  isplitl [Hc]; · iexact Hc
  isplitl [Ht] <;> iassumption

/-- At step 0 nothing arrives. -/
theorem fin_first : Mid m c 0 (sends' c 0) ⊢ Fin' m c 0 := by
  unfold Mid Fin' ownF permits
  rw [if_neg (by omega)]
  iintro ⟨Hb, Hs, Hr, Ho, Hp, Hc, Ht, HK⟩
  isplitl [Hb]; · iexact Hb
  isplitl [Hs]; · iexact Hs
  isplitl [Hr]; · iexact Hr
  isplitl [Ho]
  · isplitr; · iempintro
    iexact Ho
  isplitl [Hp]; · iexact Hp
  isplitl [Hc]; · iexact Hc
  isplitl [Ht] <;> iassumption

/-- Between steps: the state after step `t` is the state before the next; -/
theorem fin_next (t : ℕ) (ht : t < 32) : Fin' m c t ⊢ Lin m c (t + 1) := by
  unfold Fin' Lin sends'
  rw [if_pos ht, Nat.add_sub_cancel]
  iintro ⟨Hb, Hs, Hr, Ho, Hp, Hc, Ht, HK⟩
  isplitl [Hb]; · iexact Hb
  isplitl [Hs]; · iexact Hs
  isplitl [Hr]; · iexact Hr
  isplitl [Ho]; · iexact Ho
  isplitl [Hp]; · iexact Hp
  isplitl [Hc]; · iexact Hc
  isplitl [Ht]; · iexact Ht
  unfold keep
  icases HK with ⟨%f, %hf, HK⟩
  iexists f; isplitr
  · ipureintro; exact fun _ => by rw [Nat.add_sub_cancel]; exact hf.1 ht
  iexact HK

/-- after the last step the cells close and the buffers are whole. -/
theorem fin_last : iprop(env m K ∗ Fin' m c 32) ⊢ |={Set.univ}=> LinEnd c := by
  unfold Fin' sends' ring ownF env spent ready posS posR
  rw [if_neg (by omega), if_pos (by omega)]
  iintro ⟨⟨#HR, -⟩, Hb, ⟨⟨Hf0, Hs0, -⟩, ⟨Hf1, Hs1, -⟩⟩, ⟨⟨H0, -⟩, ⟨H1, -⟩, ⟨H2, -⟩, ⟨H3, -⟩⟩, ⟨Ho, Hos⟩, -, -, -, HK⟩
  imod (Rounds.cell_close ER (Rd m) (Set.mem_univ (K (c, 0))) (fun h => h) (R := 1) (late_b m c)) $$ [Hb] with Zb
  · isplitr; · iapply (inv_b m K c); iexact HR
    iexact Hb
  imod (Rounds.cell_close ER (Rd m) (Set.mem_univ (K (c, kS 32))) (fun h => h) (R := 32 / 2) (late_s m c 32 (by omega))) $$ [Hs0] with Z0
  · isplitr; · iapply (inv_s m K c 32); iexact HR
    iexact Hs0
  imod (Rounds.cell_close ER (Rd m) (Set.mem_univ (K (c, kS 33))) (fun h => h) (R := 33 / 2) (late_s m c 33 (by omega))) $$ [Hs1] with Z1
  · isplitr; · iapply (inv_s m K c 33); iexact HR
    iexact Hs1
  imod (Rounds.cell_close ER (Rd m) (Set.mem_univ (K (c, kR 32))) (fun h => h) (R := 32 / 4) (late_r m c 32 (by omega))) $$ [H0] with Y0
  · isplitr; · iapply (inv_r m K c 32); iexact HR
    iexact H0
  imod (Rounds.cell_close ER (Rd m) (Set.mem_univ (K (c, kR (32 + 1)))) (fun h => h) (R := (32 + 1) / 4) (late_r m c (32 + 1) (by omega))) $$ [H1] with Y1
  · isplitr; · iapply (inv_r m K c (32 + 1)); iexact HR
    iexact H1
  imod (Rounds.cell_close ER (Rd m) (Set.mem_univ (K (c, kR (32 + 2)))) (fun h => h) (R := (32 + 2) / 4) (late_r m c (32 + 2) (by omega))) $$ [H2] with Y2
  · isplitr; · iapply (inv_r m K c (32 + 2)); iexact HR
    iexact H2
  imod (Rounds.cell_close ER (Rd m) (Set.mem_univ (K (c, kR (32 + 3)))) (fun h => h) (R := (32 + 3) / 4) (late_r m c (32 + 3) (by omega))) $$ [H3] with Y3
  · isplitr; · iapply (inv_r m K c (32 + 3)); iexact HR
    iexact H3
  imodintro
  unfold LinEnd
  isplitr [Zb Z0 Z1 Y0 Y1 Y2 Y3]
  · isplitl [Hf0 Hf1]
    · iapply (send_whole c)
      isplitl [Hf0]
      · iapply (Entails.of_eq (congrArg (fun M => free (F := F) M c) (sSl_congr (a := 32) (b := 0) rfl))); iexact Hf0
      iapply (Entails.of_eq (congrArg (fun M => free (F := F) M c) (sSl_congr (a := 33) (b := 1) rfl))); iexact Hf1
    isplitl [Ho Hos]
    · ihave Hos := (Entails.of_eq (show bigSep (Finset.Ico 28 (32 + 1 - 2)) (fun k => free (F := F) (rSl k) c) = iprop(free (rSl 30) c ∗ free (rSl 29) c ∗ free (rSl 28) c) by
        rw [show 32 + 1 - 2 = 28 + 1 + 1 + 1 from rfl, bigSep_Ico_succ_top (by omega), bigSep_Ico_succ_top (by omega), bigSep_Ico_one])) $$ Hos
      icases Hos with ⟨G2, G1, G0⟩
      iapply (recv_whole c)
      isplitl [G0]
      · iapply (Entails.of_eq (congrArg (fun M => free (F := F) M c) (rSl_congr (a := 28) (b := 0) rfl))); iexact G0
      isplitl [G1]
      · iapply (Entails.of_eq (congrArg (fun M => free (F := F) M c) (rSl_congr (a := 29) (b := 1) rfl))); iexact G1
      isplitl [G2]
      · iapply (Entails.of_eq (congrArg (fun M => free (F := F) M c) (rSl_congr (a := 30) (b := 2) rfl))); iexact G2
      iapply (Entails.of_eq (congrArg (fun M => free (F := F) M c) (rSl_congr (a := 32 + 1 - 2) (b := 3) rfl))); iexact Ho
    unfold keep whole
    icases HK with ⟨%f, -, HK⟩
    iexists f; iexact HK
  isplitl [Zb]; · iexact Zb
  isplitl [Z0]; · iexact Z0
  isplitl [Z1]; · iexact Z1
  isplitl [Y0]; · iexact Y0
  isplitl [Y1]; · iexact Y1
  isplitl [Y2]; · iexact Y2
  iexact Y3

/-- The first four receive slots go to the peer, with the rounds its copies into them start from. -/
theorem pre_bar : iprop(env m K ∗ Lin0 m c) ⊢ iprop((dutyTok ER (bCell (peer c)) 0 () ∗ barPay (F := F) (peer c)) ∗ (atPos ER (bCell c) 0 ∅ 0 ∗ cred (tallyAt (bCell c) 0 1))
    ∗ (tick c 0 ∗ tick c 1) ∗ ring c 0 ∗ crs c 0 ∗ toks c 0 ∗ keep c (keptPrev m c 0)) := by
  unfold Lin0 barPay permit env
  rw [bigSep_Ico_succ_bot (by omega), bigSep_Ico_succ_bot (by omega), bigSep_Ico_succ_bot (by omega), bigSep_Ico_one, peer_peer]
  iintro ⟨⟨#HR, -⟩, Hb, Hcr, Htk, ⟨F0, F1, F2, F3⟩, H⟩
  isplitl [Htk F0 F1 F2 F3]
  · isplitl [Htk]; · iexact Htk
    isplitl [F0]
    · isplitl [F0]; · iexact F0
      iapply (reached_r m K c 0); iexact HR
    isplitl [F1]
    · isplitl [F1]; · iexact F1
      iapply (reached_r m K c 1); iexact HR
    isplitl [F2]
    · isplitl [F2]; · iexact F2
      iapply (reached_r m K c 2); iexact HR
    isplitl [F3]; · iexact F3
    iapply (reached_r m K c 3); iexact HR
  isplitl [Hb Hcr]
  · isplitl [Hb] <;> iassumption
  iexact H

theorem post_bar : iprop(atPos ER (bCell c) 1 ∅ 0 ∗ barPay (F := F) c ∗ (tick c 0 ∗ tick c 1) ∗ ring c 0 ∗ crs c 0 ∗ toks c 0 ∗ keep c (keptPrev m c 0)) ⊢ Lin m c 0 := by
  unfold Lin ownF spent permits barPay
  rw [if_neg (show ¬ 2 ≤ 0 by omega), Finset.Ico_eq_empty (a := 28) (by omega), bigSep_empty]
  iintro ⟨Hb, Hp, Hs, Hr, Hc, Ht, HK⟩
  isplitl [Hb]; · iexact Hb
  isplitl [Hs]; · iexact Hs
  isplitl [Hr]; · iexact Hr
  isplitr; · isplitr <;> iempintro
  isplitl [Hp]; · iexact Hp
  isplitl [Hc]; · iexact Hc
  isplitl [Ht] <;> iassumption

/-- The wait for the send slot of chunk `t - 2`. -/
theorem pre_slot (t : ℕ) (h : 2 ≤ t) : Lin m c t ⊢ iprop((posS c (t - 2) ∗ crS c (t - 2)) ∗ (atPos ER (bCell c) 1 ∅ 0 ∗ tick c (t + 1) ∗ ring c (t - 1) ∗ ownF c t ∗ permits c t t ∗ crs c (t - 1) ∗ toks c t ∗ keep c (keptPrev m c t))) := by
  unfold Lin
  rw [show (tick c t : sProp 𝕄) = iprop(crS c (t - 2) ∗ posS c (t - 2)) from if_neg (by omega)]
  iintro ⟨Hb, ⟨⟨Hc, Hp⟩, Ht⟩, H⟩
  isplitl [Hc Hp]
  · isplitl [Hp] <;> iassumption
  isplitl [Hb]; · iexact Hb
  isplitl [Ht]; · iexact Ht
  iexact H

theorem post_slot (t : ℕ) (h : 2 ≤ t) : iprop((posS c (t - 2 + 2) ∗ free (sSl (t - 2)) c) ∗ (atPos ER (bCell c) 1 ∅ 0 ∗ tick c (t + 1) ∗ ring c (t - 1) ∗ ownF c t ∗ permits c t t ∗ crs c (t - 1) ∗ toks c t ∗ keep c (keptPrev m c t))) ⊢ LinR m c t := by
  unfold LinR ready
  rw [show t - 2 + 2 = t by omega, sSl_congr (a := t - 2) (b := t) (by omega)]
  iintro ⟨⟨Hp, Hf⟩, Hb, Ht, H⟩
  isplitl [Hb]; · iexact Hb
  isplitl [Hp Hf Ht]
  · isplitr [Ht]
    · isplitl [Hf] <;> iassumption
    iexact Ht
  iexact H

theorem slot_first (t : ℕ) (h : t < 2) : Lin m c t ⊢ LinR m c t := by
  unfold Lin LinR
  rw [tick_ready c h]

/-! ## The parts of the body -/

/-- What the body holds: the buffers and semaphores `P`, what is owed, the operands and the output's buffer. -/
def St (t : ℕ) (a1 : Memref sig .tc .vmem S4096x4096 .bf16) (a2 : Memref sig .tc .vmem S4096x256 .bf16) (a3 : Memref sig .tc .vmem S2048x256 .f32)
    (P : sProp 𝕄) (O : CellTallies nD τ sig ℕ) (Y : Vec F S2048x256 .f32) : sProp 𝕄 :=
  iprop(env m K ∗ P ∗ owing c O ∗ ins m c t a1 a2 ∗ owns (c : Thread nD τ) a3 fullShare Y)

theorem St_mono {t : ℕ} {P P' : sProp 𝕄} {O : CellTallies nD τ sig ℕ} {Y : Vec F S2048x256 .f32} (h : P ⊢ P') :
    St m K c t a1 a2 a3 P O Y ⊢ St m K c t a1 a2 a3 P' O Y := by
  unfold St
  iintro ⟨#HE, HP, H⟩
  isplitr; · iexact HE
  isplitl [HP]; · iapply h; iexact HP
  iexact H

section Parts
variable {Q : PUnit → sProp (MT nD τ sig ℕ (Elt F) ℕ UU ℕ)} {k : PUnit → Prog (TpuEff nD τ sig (Elt F) Λ₀ .tc) PUnit}

/-- The barrier. -/
theorem part_bar (n : Dev nD) (hn : n = peer c) (hk : St m K c 0 a1 a2 a3 (Lin m c 0) (Ow c 0) X ⊢ run c (k ⟨⟩) Q) :
    St m K c 0 a1 a2 a3 (Lin0 m c) (Ow₀ c) X ⊢ run c (.op (.semSignal (Dev.tc n : Thread nD τ) barS 1) fun _ => .op (.semWait barS 1) k) Q := by
  refine BIBase.Entails.trans ?_ (show iprop(((env m K ∗ Lin0 m c) ∗ env m K) ∗ owing c (Ow₀ c) ∗ ins m c 0 a1 a2 ∗ owns (c : Thread nD τ) a3 fullShare X) ⊢ _ from ?_)
  · unfold St
    iintro ⟨#HE, HP, H⟩
    isplitr [H]
    · isplitl [HP]
      · isplitr; · iexact HE
        iexact HP
      iexact HE
    iexact H
  iintro ⟨⟨H, #HE⟩, HO, HI⟩
  ihave H := (pre_bar m K c) $$ H
  icases H with ⟨⟨Ht, HP⟩, ⟨Hat, Hc⟩, H⟩
  iapply (step_signal m K c n hn) $$ [Ht HP HO]
  · isplitr; · iexact HE
    isplitl [HO]; · iexact HO
    isplitl [Ht] <;> iassumption
  iintro HO
  iapply (step_waitB m K c) $$ [Hat Hc HO]
  · isplitr; · iexact HE
    isplitl [Hat]; · iexact Hat
    isplitl [Hc] <;> iassumption
  iintro ⟨Hat, HP, HO⟩
  iapply hk
  unfold St
  isplitr; · iexact HE
  isplitl [Hat HP H]
  · iapply (post_bar m c)
    isplitl [Hat]; · iexact Hat
    isplitl [HP] <;> iassumption
  isplitl [HO] <;> iassumption

/-- The wait for the send slot. -/
theorem part_slot {t : ℕ} (h : 2 ≤ t) (ht : t < 32) {sem : DmaSem sig} (hs : sem = sS (t - 2))
    {src : Memref sig .tc .vmem S2048x256 .bf16} {dst : Memref sig .tc .vmem S2048x256 .bf16} {n : ℕ} (hdst : dst = sSl n)
    {w1 : src.view.WordExact} {w2 : dst.view.WordExact} (hk : St m K c t a1 a2 a3 (LinR m c t) (Ow c t) X ⊢ run c (k ⟨⟩) Q) :
    St m K c t a1 a2 a3 (Lin m c t) (Ow c t) X ⊢ run c (.op (.waitDma2 sem src dst w1 w2) k) Q := by
  refine (St_mono m K c (pre_slot m c t h)).trans ?_
  unfold St
  iintro ⟨#HE, ⟨⟨Hp, Hc⟩, H⟩, HO, HI⟩
  iapply (step_waitS m K c (by omega) t hs (hdst ▸ credit_s n)) $$ [Hp Hc HO]
  · isplitr; · iexact HE
    isplitl [Hp]; · iexact Hp
    isplitl [Hc] <;> iassumption
  iintro ⟨Hp, Hf, HO⟩
  iapply hk
  unfold St
  isplitr; · iexact HE
  isplitl [Hp Hf H]
  · iapply (post_slot m c t h)
    isplitr [H]
    · isplitl [Hp] <;> iassumption
    iexact H
  isplitl [HO] <;> iassumption

/-- The two waits for the last copies to be out. -/
theorem part_drain {s1 s2 : DmaSem sig} (hs1 : s1 = sS 30) (hs2 : s2 = sS 31)
    {src src' : Memref sig .tc .vmem S2048x256 .bf16} {dst dst' : Memref sig .tc .vmem S2048x256 .bf16} {n : ℕ} (hdst : dst = sSl n) {n' : ℕ} (hdst' : dst' = sSl n')
    {w1 : src.view.WordExact} {w2 : dst.view.WordExact} {w1' : src'.view.WordExact} {w2' : dst'.view.WordExact}
    (hk : St m K c 32 a1 a2 a3 (Mid m c 32 (sends' c 32)) (Ow c 33) X ⊢ run c (k ⟨⟩) Q) :
    St m K c 32 a1 a2 a3 (Mid m c 32 (sends c 32)) (Ow c 33) X ⊢ run c (.op (.waitDma2 s1 src dst w1 w2) fun _ => .op (.waitDma2 s2 src' dst' w1' w2') k) Q := by
  unfold St Mid sends
  rw [if_neg (show ¬ 32 < 32 by omega), tick_wait c 30, tick_wait c 31]
  unfold St Mid sends' ready at hk
  rw [if_neg (show ¬ 32 < 32 by omega)] at hk
  iintro ⟨#HE, ⟨Hb, ⟨⟨Hc0, Hp0⟩, ⟨Hc1, Hp1⟩⟩, H⟩, HO, HI⟩
  iapply (step_waitS m K c (by omega) 33 hs1 (hdst ▸ credit_s n)) $$ [Hp0 Hc0 HO]
  · isplitr; · iexact HE
    isplitl [Hp0]; · iexact Hp0
    isplitl [Hc0] <;> iassumption
  iintro ⟨Hp0, Hf0, HO⟩
  iapply (step_waitS m K c (by omega) 33 hs2 (hdst' ▸ credit_s n')) $$ [Hp1 Hc1 HO]
  · isplitr; · iexact HE
    isplitl [Hp1]; · iexact Hp1
    isplitl [Hc1] <;> iassumption
  iintro ⟨Hp1, Hf1, HO⟩
  iapply hk
  isplitr; · iexact HE
  isplitr [HO HI]
  · isplitl [Hb]; · iexact Hb
    isplitr [H]
    · isplitl [Hp0 Hf0]
      · isplitl [Hf0]
        · iapply (Entails.of_eq (congrArg (fun M => free (F := F) M c) (sSl_congr (a := 30) (b := 32) rfl))); iexact Hf0
        iexact Hp0
      isplitl [Hf1]
      · iapply (Entails.of_eq (congrArg (fun M => free (F := F) M c) (sSl_congr (a := 31) (b := 33) rfl))); iexact Hf1
      iexact Hp1
    iexact H
  isplitl [HO] <;> iassumption

/-- After the last operation the state is the next step's. -/
theorem part_end {t : ℕ} (ht : t < 33) :
    St m K c t a1 a2 a3 (Fin' m c t) (Ow c (t + 1)) X
      ⊢ run c (.ret PUnit.unit) fun _ => iprop(Phi m c (t + 1) ∗ owing c (owedAt c (t + 1)) ∗ ins m c t a1 a2 ∗ owns (c : Thread nD τ) a3 fullShare X) := by
  unfold run
  rw [wp_ret]
  unfold St Phi owedAt
  rw [if_neg (Nat.succ_ne_zero t), if_neg (Nat.succ_ne_zero t)]
  by_cases h : t < 32
  · rw [if_pos (by omega)]
    iintro ⟨-, HP, H⟩
    imodintro
    isplitl [HP]; · iapply (fin_next m c t h); iexact HP
    iexact H
  · rw [if_neg (by omega), show t = 32 by omega]
    iintro ⟨#HE, HP, H⟩
    imod (fin_last m K c) $$ [HP] with HP
    · isplitr; · iexact HE
      iexact HP
    imodintro
    isplitl [HP] <;> iassumption

/-- The arrival of the previous step's chunk. -/
theorem part_recv {t : ℕ} (h0 : 1 ≤ t) (ht : t ≤ 32) {sem : DmaSem sig} (hs : sem = rS (t - 1))
    {src : Memref sig .tc .vmem S2048x256 .bf16} {dst : Memref sig .tc .vmem S2048x256 .bf16} {n : ℕ} (hdst : dst = rSl n)
    {w1 : src.view.WordExact} {w2 : dst.view.WordExact}
    {offK offR : Fin 3 → ℕ} (hoffK : offK = ![(t - 1) % 2, 0, 0]) (hoffR : offR = ![(t - 1) % 4, 0, 0])
    {inbK : ∀ a, offK a + S1x2048x256.size a ≤ S2x2048x256.size a} {inbR : ∀ a, offR a + S1x2048x256.size a ≤ S4x2048x256.size a}
    {inb3 : ∀ a, (![0, 0] : Fin 2 → ℕ) a + S2048x256.size a ≤ S2048x256.size a} {l1 l2 l3 hx hm}
    (hk : St m K c t a1 a2 a3 (Fin' m c t) (Ow c (t + 1)) (outAt m c (t - 1)) ⊢ run c (k ⟨⟩) Q) :
    St m K c t a1 a2 a3 (Mid m c t (sends' c t)) (Ow c (t + 1)) X
      ⊢ run c (.op (.waitDma2 sem src dst w1 w2) fun _ =>
            .op (.load kM (Rect.unit (s := S2x2048x256) offK S1x2048x256.size inbK).toLoadRect l1) fun v40 =>
            .op (.load rM (Rect.unit (s := S4x2048x256) offR S1x2048x256.size inbR).toLoadRect l2) fun v43 =>
            .op (.load a3 (Rect.unit (s := S2048x256) ![0, 0] S2048x256.size inb3).toLoadRect l3) fun _ =>
            .op (.store a3 (Rect.unit (s := S2048x256) ![0, 0] S2048x256.size inb3) (k0_pay5 v40 v43) Finset.univ hx hm) k) Q := by
  refine (St_mono m K c (pre_recv m c t h0 ht _)).trans ?_
  unfold St
  iintro ⟨#HE, ⟨⟨Hp, Hc, HK⟩, H⟩, HO, HI, HX⟩
  iapply (seg_recv m K c h0 ht hs (hdst ▸ credit_r n) hoffK hoffR) $$ [Hp Hc HK HO HX]
  · isplitr; · iexact HE
    isplitl [Hp]; · iexact Hp
    isplitl [Hc]; · iexact Hc
    isplitl [HK]; · iexact HK
    isplitl [HX] <;> iassumption
  iintro ⟨Hp, HP, HK, HX, HO⟩
  iapply hk
  unfold St
  isplitr; · iexact HE
  isplitl [Hp HP HK H]
  · iapply (post_recv m c t h0 ht)
    isplitr [H]
    · isplitl [Hp]; · iexact Hp
      isplitl [HP] <;> iassumption
    iexact H
  isplitl [HO]; · iexact HO
  isplitl [HI] <;> iassumption

/-- The sending part. -/
theorem part_send {t : ℕ} (ht : t < 32)
    {offA offB : Fin 2 → ℕ} {inbA : ∀ a, offA a + S4096x2048.size a ≤ S4096x4096.size a} {inbB : ∀ a, offB a + S4096x2048.size a ≤ S4096x4096.size a}
    {inb2 inb2' : ∀ a, (![0, 0] : Fin 2 → ℕ) a + S4096x256.size a ≤ S4096x256.size a}
    {offS : Fin 3 → ℕ} (hoffS : offS = ![t % 2, 0, 0]) {inbS inbS' : ∀ a, offS a + S1x2048x256.size a ≤ S2x2048x256.size a}
    {pay : Vec F S4096x2048 .bf16 → Vec F S4096x256 .bf16 → Vec F S1x2048x256 .bf16} {pay' : Vec F S4096x2048 .bf16 → Vec F S4096x256 .bf16 → Vec F S1x2048x256 .f32}
    (hpay : shapeCast S2048x256 (pay (fun y => xBlk m c ((Rect.unit (s := S4096x4096) offA S4096x2048.size inbA).toLoadRect.idx y)) (dyBlk m c t)) shapeCasts_S1x2048x256_S2048x256 = sentPart m c t)
    (hpay' : shapeCast S2048x256 (pay' (fun y => xBlk m c ((Rect.unit (s := S4096x4096) offB S4096x2048.size inbB).toLoadRect.idx y)) (dyBlk m c t)) shapeCasts_S1x2048x256_S2048x256 = keepPart m c t)
    {l1 l2 l3 l4 l5 l6 hx1 hm1 hx2 hm2}
    (n : Dev nD) (hn : n = peer c) {src : Memref sig .tc .vmem S2048x256 .bf16} (hsrc : src = sSl t)
    {dst : Memref sig (Dev.tc n : Thread nD τ).2.kind .vmem S2048x256 .bf16} (hdst : dst = rSl t)
    {s1 s2 : DmaSem sig} (h1 : s1 = sS t) (h2 : s2 = rS t) {hsc : dst.view.ref.isScScratch = false}
    {hw1 : src.view.WordExact} {hw2 : dst.view.WordExact}
    {hsem : DmaTarget.Typed .vmem (.dma s2) (.remote (Dev.tc n : Thread nD τ) dst (.dma s1) hsc)}
    (hk : St m K c t a1 a2 a3 (Mid m c t (sends c t)) (Ow c (t + 1)) X ⊢ run c (k ⟨⟩) Q) :
    St m K c t a1 a2 a3 (LinR m c t) (Ow c t) X
      ⊢ run c (.op (.load a1 (Rect.unit (s := S4096x4096) offA S4096x2048.size inbA).toLoadRect l1) fun v33 =>
            .op (.load a2 (Rect.unit (s := S4096x256) ![0, 0] S4096x256.size inb2).toLoadRect l2) fun v35 =>
            .op (.load sM (Rect.unit (s := S2x2048x256) offS S1x2048x256.size inbS).toLoadRect l3) fun _ =>
            .op (.store sM (Rect.unit (s := S2x2048x256) offS S1x2048x256.size inbS) (pay v33 v35) Finset.univ hx1 hm1) fun _ =>
            .op (.enqueueDma src (.remote (Dev.tc n : Thread nD τ) dst (.dma s1) hsc) (.dma s2) hw1 hw2 hsem) fun _ =>
            .op (.load a1 (Rect.unit (s := S4096x4096) offB S4096x2048.size inbB).toLoadRect l4) fun v57 =>
            .op (.load a2 (Rect.unit (s := S4096x256) ![0, 0] S4096x256.size inb2').toLoadRect l5) fun v59 =>
            .op (.load kM (Rect.unit (s := S2x2048x256) offS S1x2048x256.size inbS').toLoadRect l6) fun _ =>
            .op (.store kM (Rect.unit (s := S2x2048x256) offS S1x2048x256.size inbS') (pay' v57 v59) Finset.univ hx2 hm2) k) Q := by
  refine (St_mono m K c (pre_send m c t ht)).trans ?_
  unfold St ins
  iintro ⟨#HE, ⟨⟨Hs, Hat, Hp, HX, Htk, HK⟩, H⟩, HO, ⟨H1, H2⟩, HY⟩
  iapply (seg_send m K c ht hoffS hpay hpay' n hn hsrc hdst h1 h2) $$ [H1 H2 Hs Hat Hp HX Htk HK HO]
  · isplitr; · iexact HE
    isplitl [H1]; · iexact H1
    isplitl [H2]; · iexact H2
    isplitl [Hs]; · iexact Hs
    isplitl [Hat]; · iexact Hat
    isplitl [Hp]; · iexact Hp
    isplitl [HX]; · iexact HX
    isplitl [Htk]; · iexact Htk
    isplitl [HK] <;> iassumption
  iintro ⟨H1, H2, Hat, Hc, HK, HO⟩
  iapply hk
  unfold St ins
  isplitr; · iexact HE
  isplitl [Hat Hc HK H]
  · iapply (post_send m c t ht)
    isplitl [H]; · iexact H
    isplitl [Hat]; · iexact Hat
    isplitl [Hc] <;> iassumption
  isplitl [HO]; · iexact HO
  isplitr [HY]
  · isplitl [H1] <;> iassumption
  iexact HY

end Parts

set_option maxHeartbeats 1600000 in
/-- The body of step `t`, from the state before it to the state after its last operation; what follows each conditional is run once. -/
theorem body_run {Q : PUnit → sProp (MT nD τ sig ℕ (Elt F) ℕ UU ℕ)}
    (hE : St m K c t.val a1 a2 a3 (Fin' m c t.val) (Ow c (t.val + 1)) (if t.val = 0 then X else outAt m c (t.val - 1)) ⊢ run c (.ret PUnit.unit) Q) :
    St m K c t.val a1 a2 a3 (Phi m c t.val) (owedAt c t.val) X
      ⊢ run c (cc0_body (grid0.coords t) a1 h1 a2 h2 a3 h3 sM (Memref.isWhole_whole _) rM (Memref.isWhole_whole _) kM (Memref.isWhole_whole _) cc0_scratch3 cc0_scratch4) Q := by
  have hlt : t.val < 33 := cfg0_N ▸ t.isLt
  rw [cc0_body_eq_skeleton]
  unfold cc0_body_skel
  simp (config := {zeta := false, zetaHave := false, proj := false}) only [semSignalWord, semWaitWord, Prog.lift, Prog.bind_op, Prog.bind_ret]
  refine run_deviceId c ?_
  extract_lets -underBinder +onlyGivenNames J
  suffices hJ : St m K c t.val a1 a2 a3 (Lin m c t.val) (Ow c t.val) X ⊢ run c (J ⟨⟩) Q by
    clear_value J
    refine run_ite c (fun h => ?_) fun h => ?_
    · have ht := (cond1_iff t).mp h
      unfold Phi owedAt
      rw [if_pos ht, if_pos ht]
      rw [ht] at hJ ⊢
      exact part_bar m K c _ (Fin.ext (dev1_eq c)) hJ
    · have ht := fun e => h ((cond1_iff t).mpr e)
      unfold Phi owedAt
      rw [if_neg ht, if_neg ht, if_pos (by omega)]
      exact hJ
  unfold J
  clear J
  extract_lets -underBinder +onlyGivenNames J
  suffices hJ : St m K c t.val a1 a2 a3 (Mid m c t.val (sends c t.val)) (Ow c (t.val + 1)) X ⊢ run c (J ⟨⟩) Q by
    clear_value J
    refine run_ite c (fun h => ?_) fun h => ?_
    · have ht := (cond2_iff t).mp h
      extract_lets -underBinder +onlyGivenNames J₁
      suffices hJ₁ : St m K c t.val a1 a2 a3 (LinR m c t.val) (Ow c t.val) X ⊢ run c (J₁ ⟨⟩) Q by
        clear_value J₁
        refine run_ite c (fun h => ?_) fun h => ?_
        · have h2 := (cond3_iff t).mp h
          exact part_slot m K c h2 ht (sS_of _ ((off1_at t).trans (by rw [show (t.val - 2) % 2 = t.val % 2 by omega])) _) (sSl_of t.val (off2_at t) _ _) hJ₁
        · exact (St_mono m K c (slot_first m c t.val (by have := mt (cond3_iff t).mpr h; omega))).trans hJ₁
      unfold J₁
      clear J₁
      extract_lets -underBinder +onlyGivenNames J₁
      suffices hJ₁ : (if c.val < 16 then St m K c t.val a1 a2 a3 (Mid m c t.val (sends c t.val)) (Ow c (t.val + 1)) X else St m K c t.val a1 a2 a3 (LinR m c t.val) (Ow c t.val) X) ⊢ run c (J₁ ⟨⟩) Q by
        clear_value J₁
        refine run_ite c (fun h => ?_) fun h => ?_
        · have hc := (cond4_iff c).mp h
          rw [if_pos hc] at hJ₁
          exact part_send m K c ht (off4_at t) (by unfold sentPart; rw [if_pos hc]; rfl) (by unfold keepPart; rw [if_pos hc]; rfl) _ (Fin.ext (dev2_eq c)) (sSl_of _ (off8_at t) _ _) (rSl_of _ (off7_at t) _ _) (sS_of _ (off5_at t) _) (rS_of _ (off6_at t) _) hJ₁
        · rw [if_neg (mt (cond4_iff c).mpr h)] at hJ₁
          exact hJ₁
      unfold J₁
      refine run_ite c (fun h => ?_) fun h => ?_
      · have hc := (cond5_iff c).mp h
        rw [if_neg hc]
        exact part_send m K c ht (off9_at t) (by unfold sentPart; rw [if_neg hc]; rfl) (by unfold keepPart; rw [if_neg hc]; rfl) _ (Fin.ext (dev3_eq c)) (sSl_of _ (off13_at t) _ _) (rSl_of _ (off12_at t) _ _) (sS_of _ (off10_at t) _) (rS_of _ (off11_at t) _) hJ
      · rw [if_pos (not_not.mp (mt (cond5_iff c).mpr h))]
        exact hJ
    · have ht : t.val = 32 := by have := mt (cond2_iff t).mpr h; omega
      rw [ht] at hJ ⊢
      exact (St_mono m K c (mid_last m c)).trans hJ
  unfold J
  clear J
  extract_lets -underBinder +onlyGivenNames v18 v19 v20 J
  suffices hJ : St m K c t.val a1 a2 a3 (Mid m c t.val (sends' c t.val)) (Ow c (t.val + 1)) X ⊢ run c (J ⟨⟩) Q by
    clear_value J
    refine run_ite c (fun h => ?_) fun h => ?_
    · have ht := (cond6_iff t).mp h
      rw [ht] at hJ ⊢
      exact part_drain m K c (sS_of 30 rfl _) (sS_of 31 rfl _) (sSl_of 0 rfl _ _) (sSl_of 1 rfl _ _) hJ
    · have ht : t.val < 32 := by have := mt (cond6_iff t).mpr h; omega
      rwa [show sends' (F := F) c t.val = sends c t.val by unfold sends sends'; rw [if_pos ht, if_pos ht]] at hJ
  unfold J
  clear J
  extract_lets -underBinder +onlyGivenNames J
  suffices hJ : St m K c t.val a1 a2 a3 (Fin' m c t.val) (Ow c (t.val + 1)) (if t.val = 0 then X else outAt m c (t.val - 1)) ⊢ run c (J ⟨⟩) Q by
    clear_value J
    refine run_ite c (fun h => ?_) fun h => ?_
    · have ht := (cond7_iff t).mp h
      rw [if_neg (by omega)] at hJ
      exact part_recv m K c ht (by omega) (rS_of _ (off14_at t ht) _) (rSl_of _ (off15_at t ht) _ _) (off17_at t ht) (off18_at t ht) hJ
    · have ht : t.val = 0 := by have := mt (cond7_iff t).mpr h; omega
      rw [ht] at hJ ⊢
      exact (St_mono m K c (fin_first m c)).trans hJ
  exact hE

/-- The body of step `t` takes the invariant to the next step's and computes the output's block of the step before. -/
theorem body_sound :
    iprop(env m K ∗ Phi m c t.val ∗ owing c (owedAt c t.val) ∗ ins m c t.val a1 a2 ∗ owns (c : Thread nD τ) a3 fullShare X)
      ⊢ run c (cc0_body (grid0.coords t) a1 h1 a2 h2 a3 h3 sM (Memref.isWhole_whole _) rM (Memref.isWhole_whole _) kM (Memref.isWhole_whole _) cc0_scratch3 cc0_scratch4)
        (fun _ => iprop(Phi m c (t.val + 1) ∗ owing c (owedAt c (t.val + 1)) ∗ ins m c t.val a1 a2
          ∗ owns (c : Thread nD τ) a3 fullShare (if t.val = 0 then X else outAt m c (t.val - 1)))) :=
  body_run m K c t h1 h2 h3 (part_end m K c (cfg0_N ▸ t.isLt))

end Cert.Exchange
-- ==== Proof.Dats.lean ====
/-
# The proof data of the kernel's pipeline, and its body obligation

Each step's body, as the pipeline calls it, keeps the invariant: the operands' blocks stay in place and the output's
buffer holds, from step 1 on, the chunk of the step before.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

abbrev s₀ : MemSt nD τ sig (Elt F) := ⟨m, fun _ => 0, ρ⟩

/-- The pipeline's proof data: the arrays as launched; the operands' blocks left in place, the output's block computed;
    between steps the exchange's state, and what is owed. -/
def dats (_ : Fin 1) (c : Dev nD) : Dat τ (Elt F) ℕ ℕ UU ℕ cfg0 c where
  A w := m ((cfg0.win w).arr.view.loc (c : Thread nD τ))
  after w t := match w with
    | ⟨0, _⟩ => xBlk m c
    | ⟨1, _⟩ => dyBlk m c t.val
    | ⟨2, _⟩ => outAt m c (t.val - 1)
  Φ t := iprop((∃ K, env m K) ∗ Phi m c t.val)
  q _ := fullShare
  owed t := owedAt c t.val

variable (c : Dev nD)

theorem after_0 (t : Fin cfg0.N) : (dats m 0 c).after 0 t = iblk m c 0 t := rfl
theorem after_1 (t : Fin cfg0.N) : (dats m 0 c).after 1 t = iblk m c 1 t := by
  show iblk m c 1 (pt t.val) = iblk m c 1 t
  rw [pt_val]

theorem before_0 (t : Fin cfg0.N) (d) : (dats m 0 c).before 0 t d = xBlk m c :=
  ((dats m 0 c).before_in_eq_fetched 0 rfl (fun _ => rfl) (fun _ _ _ => rfl) (fun t => by rw [after_0]; rfl) t d).trans rfl
theorem before_1 (t : Fin cfg0.N) (d) : (dats m 0 c).before 1 t d = dyBlk m c t.val :=
  ((dats m 0 c).before_in_eq_fetched 1 rfl (fun _ => rfl) (fun _ _ _ => rfl) (fun t => by rw [after_1]; rfl) t d).trans (after_1 m c t).symm

theorem idle_2 : ∀ t : Fin grid0.N, cfg0.idle 2 (cfg0.grid.coords t) = true → t.val = 0 ∧ (cfg0.win 2).flush t = false := by decide +kernel
theorem busy_2 : ∀ t : Fin grid0.N, cfg0.idle 2 (cfg0.grid.coords t) = false → ¬ t.val = 0 := by decide +kernel

/-- What the body leaves in the output's buffer: at step 0 what it held, later its chunk. -/
theorem leave_2 (t : Fin cfg0.N) (d) :
    owns (c : Thread nD τ) (st0_2 t) fullShare (if t.val = 0 then (dats m 0 c).before 2 t d else outAt m c (t.val - 1))
      ⊢ (match cfg0.idle 2 (cfg0.grid.coords t) with
          | true => match (cfg0.win 2).flush t with
            | false => iprop(∃ d, owns (c : Thread nD τ) (st0_2 t) fullShare ((dats m 0 c).before 2 t d))
            | true => owns (c : Thread nD τ) (st0_2 t) fullShare ((dats m 0 c).after 2 t)
          | false => owns (c : Thread nD τ) (st0_2 t) fullShare ((dats m 0 c).after 2 t) : sProp 𝕄) := by
  cases h : cfg0.idle 2 (cfg0.grid.coords t) with
  | true =>
    obtain ⟨h0, hf⟩ := idle_2 t h
    rw [hf, if_pos h0]
    iintro H; iexists d; iexact H
  | false =>
    rw [if_neg (busy_2 t h)]
    exact BIBase.Entails.refl

/-- The library's obligation on the body of device `c`. -/
theorem body_obligation : BodyObligation (dats (F := F) m 0 c) (defs₀ (F := F)) 𝒱₀ 0 Set.univ := fun t => by
  rw [bigSep_W0, bigSep_W0]
  show iprop(((∃ K, env m K) ∗ Phi m c t.val) ∗ (dats m 0 c).owesAt 0 t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ run c (bodyAt0 t) fun _ => iprop(((∃ K, env m K) ∗ Phi m c (t.val + 1)) ∗ (dats m 0 c).owesAt 0 t.succ
      ∗ owns (c : Thread nD τ) (st0_0 t) fullShare (xBlk m c) ∗ owns (c : Thread nD τ) (st0_1 t) fullShare (dyBlk m c t.val)
      ∗ match cfg0.idle 2 (cfg0.grid.coords t) with
          | true => match (cfg0.win 2).flush t with
            | false => iprop(∃ d, owns (c : Thread nD τ) (st0_2 t) fullShare ((dats m 0 c).before 2 t d))
            | true => owns (c : Thread nD τ) (st0_2 t) fullShare ((dats m 0 c).after 2 t)
          | false => owns (c : Thread nD τ) (st0_2 t) fullShare ((dats m 0 c).after 2 t))
  simp only [before_0, before_1]
  unfold Dat.owesAt Pipeline.owesWithin
  iintro ⟨⟨⟨%K, #HE⟩, HP⟩, ⟨%W, -, HO⟩, ⟨%d0, H0⟩, ⟨%d1, H1⟩, ⟨%d2, H2⟩⟩
  unfold run
  iapply (wp_wand _ _ _) $$ [HP HO H0 H1 H2]
  · iapply (body_sound m K c t (hstage0_0 ((cfg0.slots t 0).cast nbuf0_0)) (hstage0_1 ((cfg0.slots t 1).cast nbuf0_1)) (hstage0_2 ((cfg0.slots t 2).cast nbuf0_2)) (X := (dats m 0 c).before 2 t d2))
    isplitr; · iexact HE
    isplitl [HP]; · iexact HP
    isplitl [HO]; · unfold owing; iexists W; iexact HO
    isplitr [H2]
    · unfold ins
      isplitl [H0]; · iexact H0
      iexact H1
    iexact H2
  unfold owing ins
  iintro %u ⟨HP, ⟨%W', HO⟩, ⟨H0, H1⟩, H2⟩
  isplitl [HP]
  · isplitr; · iexists K; iexact HE
    iexact HP
  isplitl [HO]
  · iexists W'
    isplitr; · ipureintro; exact fun _ _ => Or.inl trivial
    iexact HO
  isplitl [H0]; · iexact H0
  isplitl [H1]; · iexact H1
  iapply (leave_2 m c t d2); iexact H2

theorem share_eq (w : Fin cfg0.W) : (dats m 0 c).share w = fullShare := by unfold Dat.share; split <;> rfl

end Cert.Exchange
-- ==== Proof.Launch.lean ====
/-
# The launch, and the run of the kernel's program

Every device's seven cells and its duty tokens are made at launch, the tokens dealt to the devices that pay them; from
there the pipeline runs the bodies, and in every final state the arrays hold what the proof data say.
-/
module

public import Idealize.ShloMosaic.Lib.Pipeline.CollectiveSegs
public import proofs.«01_k».proof.Proof.Dats

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

abbrev osem : Fin 6 → SemLoc sig
  | 0 => .dma (sS 0) | 1 => .dma (sS 1) | 2 => .dma (rS 0) | 3 => .dma (rS 1) | 4 => .dma (rS 2) | 5 => .dma (rS 3)

theorem ownSemFacts : Pipeline.OwnSemFacts cfg0.spec osem := by decide

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-! ## The duty tokens -/

/-- A device's own cells' duties: its barrier's one, a send semaphore's and a receive semaphore's per chunk. -/
abbrev TokIx : Type := Unit ⊕ (Fin 32 ⊕ Fin 32)
abbrev tokOf (cj : Dev nD × TokIx) : GSem nD τ sig × ℕ × Unit := match cj.2 with
  | .inl _ => (bCell cj.1, 0, ())
  | .inr (.inl k) => (sCell cj.1 k.val, k.val / 2, ())
  | .inr (.inr k) => (rCell cj.1 k.val, k.val / 4, ())

theorem tokOf_injective : Function.Injective tokOf := by
  rintro ⟨c, j⟩ ⟨c', j'⟩ h
  have h1 : c = c' := by
    have := congrArg (fun x : GSem nD τ sig × ℕ × Unit => x.1.1.1) h
    rcases j with u | k | k <;> rcases j' with u' | k' | k' <;> exact this
  subst h1
  have hs := congrArg (fun x : GSem nD τ sig × ℕ × Unit => x.1.2) h
  have hr := congrArg (fun x : GSem nD τ sig × ℕ × Unit => x.2.1) h
  rcases j with u | k | k <;> rcases j' with u' | k' | k'
  · rfl
  · cases hs
  · cases hs
  · cases hs
  · have e : 5 + k.val % 2 = 5 + k'.val % 2 := congrArg Fin.val (SemLoc.dma.inj hs)
    have r : k.val / 2 = k'.val / 2 := hr
    rw [show k = k' from Fin.ext (by omega)]
  · have e : 5 + k.val % 2 = 7 + k'.val % 4 := congrArg Fin.val (SemLoc.dma.inj hs)
    omega
  · cases hs
  · have e : 7 + k.val % 4 = 5 + k'.val % 2 := congrArg Fin.val (SemLoc.dma.inj hs)
    omega
  · have e : 7 + k.val % 4 = 7 + k'.val % 4 := congrArg Fin.val (SemLoc.dma.inj hs)
    have r : k.val / 4 = k'.val / 4 := hr
    rw [show k = k' from Fin.ext (by omega)]
def exToks : Finset (GSem nD τ sig × ℕ × Unit) := Finset.univ.map ⟨tokOf, tokOf_injective⟩

def u₀ : UU := (initOf (Pipeline.cells cfgs cellOf_inj) (Pipeline.launchToks cfgs cellOf_inj), initOf exCells exToks)

/-- A conjunction over the chunks, by number. -/
theorem bigSep_chunks (Φ : ℕ → sProp 𝕄) : bigSep Finset.univ (fun k : Fin 32 => Φ k.val) = bigSep (Finset.Ico 0 32) Φ := by
  rw [show Finset.Ico 0 32 = (Finset.univ : Finset (Fin 32)).map Fin.valEmbedding by decide, bigSep_map]; rfl

variable (c : Dev nD)

def mintS : sProp 𝕄 := bigSep (Finset.Ico 0 32) fun k => dutyTok ER (sCell c k) (k / 2) ()
def mintR : sProp 𝕄 := bigSep (Finset.Ico 0 32) fun k => dutyTok ER (rCell c k) (k / 4) ()
/-- The tokens of device `c`'s own cells; and of the duties it pays. -/
def mint : sProp 𝕄 := iprop(dutyTok ER (bCell c) 0 () ∗ mintS (F := F) c ∗ mintR c)
def payToks : sProp 𝕄 := iprop(dutyTok ER (bCell (peer c)) 0 () ∗ mintS (F := F) c ∗ mintR (peer c))

/-- What the launch deals device `c`. -/
def G : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ mint c)

/-- What stays with device `c`: its positions, and the tokens of the duties it pays; with every cell's record. -/
def linear : sProp 𝕄 := iprop((bigSep Finset.univ fun k : Fin 7 => atPos ER (kcell (c, k)) 0 ∅ 0) ∗ payToks (F := F) c)
def G' : sProp 𝕄 := iprop(∃ K, records m K ∗ linear c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_cells : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => mint c := by
    unfold exToks; rw [bigSep_map, bigSep_univ_prod]
    refine bigSep_congr fun c _ => ?_
    rw [BI.bigSep_univ_sum, BI.bigSep_univ_sum]
    unfold mint mintS mintR
    rw [← bigSep_chunks, ← bigSep_chunks, Finset.univ_unique, bigSep_singleton]
    rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

theorem ownSems0_eq : (Pipeline.ownSems0 (Ix := ℕ) (Name := ℕ) (U := UU) (Lvl := ℕ) (Val := Elt F) (τ := τ) osem c : sProp 𝕄)
    = iprop(semVal (sCell c 0) 0 ∗ semVal (sCell c 1) 0 ∗ semVal (rCell c 0) 0 ∗ semVal (rCell c 1) 0 ∗ semVal (rCell c 2) 0 ∗ semVal (rCell c 3) 0) := by
  rw [Pipeline.ownSems0_eq_of_list c osem [0, 1, 2, 3, 4, 5] (by decide) (by decide)]; rfl
theorem unscopedSems0_eq : (unscopedSems0 c : sProp 𝕄) = semVal (bCell c) 0 := by
  unfold unscopedSems0; rw [bigSep_eq_bigSepL_of_eq [SemLoc.reg barS] (by decide) (by decide)]; rfl

theorem sems0_eq :
    iprop(Pipeline.ownSems0 (Ix := ℕ) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ mint c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt: a barrier's and a receive semaphore's go to the peer. -/
theorem toks_around : (bigSep Finset.univ fun c : Dev nD => (mint c : sProp 𝕄)) ⊢ bigSep Finset.univ fun c : Dev nD => payToks c := by
  unfold mint payToks
  rw [bigSep_sep', bigSep_sep', bigSep_sep', bigSep_sep', bigSep_univ_equiv swap (fun c : Dev nD => (dutyTok ER (bCell c) 0 () : sProp 𝕄)),
    bigSep_univ_equiv swap (fun c : Dev nD => (mintR c : sProp 𝕄))]
  exact BIBase.Entails.refl

theorem with_records {K : Dev nD × Fin 7 → ℕ} (Φ : Dev nD → sProp 𝕄) :
    iprop(records m K ∗ bigSep Finset.univ Φ) ⊢ bigSep Finset.univ fun c => iprop(records m K ∗ Φ c) :=
  (sep_mono_left (BI.bigSep_of_persistent Finset.univ (records m K))).trans (by rw [← bigSep_sep'])

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ mint c) : sProp 𝕄)
      ⊢ bigSep Finset.univ (G' m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply ((with_records m (K := K) linear).trans (bigSep_mono fun c _ => show iprop(records m K ∗ linear c) ⊢ G' m c by
    unfold G'; iintro H; iexists K; iexact H))
  isplitr
  · unfold records; isplitl; · iexact HI
    iexact HR
  · unfold linear
    rw [bigSep_sep']
    isplitl [Hat]; · iexact Hat
    iexact Htk

/-- At launch, the cells of all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds : (Pipeline.launchCred Ow₀ c : sProp 𝕄) ⊢ iprop(crs c 0 ∗ cred (tallyAt (bCell c) 0 1)) := by
  rw [show Ow₀ = fun d => (fun d => ∑ j ∈ Finset.Ico 0 32, tallyAt (rCell (peer d) j) j N) d + (fun d => tallyAt (bCell (peer d)) 0 1) d from rfl, Pipeline.launchCred_add, Pipeline.launchCred_sum]
  refine BI.sep_mono ?_ ?_
  · unfold crs crR
    exact bigSep_mono fun j _ => Pipeline.launchCred_tallyAt _ peer peer peer_peer peer_peer j N c
  · exact Pipeline.launchCred_tallyAt _ peer peer peer_peer peer_peer 0 1 c

/-! ## The side conditions of the launch -/

/-- What device `c` starts from beside its buffers. -/
def start : sProp 𝕄 := iprop(G' m c ∗ (crs c 0 ∗ cred (tallyAt (bCell c) 0 1)) ∗ levAts Ls lv)

theorem start_intro :
    iprop(Pipeline.unscopedRestP Pipeline.Prefetch.none cfg0.spec c (fun b => m ((c : Thread nD τ).loc b)) ∗ levAts Ls lv
        ∗ Pipeline.launchCred Ow₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem toks_intro : iprop(mintS (F := F) c ∗ mintR (peer c)) ⊢ toks (F := F) c 0 := by
  unfold mintS mintR toks tok
  rw [bigSep_sep']

theorem phi0_intro :
    iprop(start m c ∗ Pipeline.prefHeld Pipeline.Prefetch.none c (fun _ => fullShare.right) (fun k => k.elim0) ∗ Pipeline.scopedRest cfg0.spec c)
      ⊢ (dats m 0 c).Φ 0 := by
  show _ ⊢ iprop((∃ K, env m K) ∗ Lin0 m c)
  rw [scopedRest0_eq]
  unfold start G' linear payToks
  rw [bigSep_fin7]
  iintro ⟨⟨⟨%K, #HR, ⟨Hb, Hs0, Hs1, Hr0, Hr1, Hr2, Hr3⟩, HtB, Htk⟩, ⟨Hcr, Hcb⟩, #Hlev⟩, -, ⟨B0, B1, B2⟩⟩
  isplitr
  · iexists K; unfold env; isplitr; · iexact HR
    iexact Hlev
  ihave B0 := (show iprop(∃ f, (c : Thread nD τ).loc cc0_scratch0 ↦{fullShare} f) ⊢ iprop(free (F := F) (sSl 0) c ∗ free (sSl 1) c) from send_slots c) $$ B0
  icases B0 with ⟨F0, F1⟩
  ihave B1 := (show iprop(∃ f, (c : Thread nD τ).loc cc0_scratch1 ↦{fullShare} f) ⊢ iprop(free (F := F) (rSl 0) c ∗ free (rSl 1) c ∗ free (rSl 2) c ∗ free (rSl 3) c) from recv_slots c) $$ B1
  unfold Lin0
  isplitl [Hb]; · iexact Hb
  isplitl [Hcb]; · iexact Hcb
  isplitl [HtB]; · iexact HtB
  isplitl [B1]; · iexact B1
  isplitl [F0 F1 Hs0 Hs1]
  · rw [tick_ready c (by omega : 0 < 2), tick_ready c (by omega : 1 < 2)]
    unfold ready posS
    isplitl [F0 Hs0]
    · isplitl [F0]; · iexact F0
      isplitl [Hs0]; · iexact Hs0
      iapply (reached_s m K c 0); iexact HR
    isplitl [F1]; · iexact F1
    isplitl [Hs1]; · iexact Hs1
    iapply (reached_s m K c 1); iexact HR
  isplitl [Hr0 Hr1 Hr2 Hr3]
  · unfold ring posR
    isplitl [Hr0]
    · isplitl [Hr0]; · iexact Hr0
      iapply (reached_r m K c 0); iexact HR
    isplitl [Hr1]
    · isplitl [Hr1]; · iexact Hr1
      iapply (reached_r m K c 1); iexact HR
    isplitl [Hr2]
    · isplitl [Hr2]; · iexact Hr2
      iapply (reached_r m K c 2); iexact HR
    isplitl [Hr3]; · iexact Hr3
    iapply (reached_r m K c 3); iexact HR
  isplitl [Hcr]; · iexact Hcr
  isplitl [Htk]; · iapply (toks_intro (F := F) c); iexact Htk
  unfold keep
  icases B2 with ⟨%f, B2⟩
  iexists f
  isplitr; · ipureintro; exact fun h => absurd h (by omega)
  iexact B2

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop((∃ K, env m K) ∗ Phi m c cfg0.N) from rfl, cfg0_N, show Phi m c 33 = LinEnd c from rfl,
    scopedRest0_eq, ownSems0_eq, unscopedSems0_eq]
  unfold LinEnd
  iintro ⟨-, HB, Hb, HS⟩
  isplitl [Hb]; · iexact Hb
  isplitl [HS]; · iexact HS
  iexact HB

theorem lv_stage : ∀ (w : Fin 3) (s : Fin (spec0 w).nbuf), ((spec0 w).sem s).val < 7 := by decide

theorem waits : (levAts Ls lv : sProp 𝕄) ⊢ Pipeline.cellsWaits cfgs (dats m) 0 0 c :=
  Pipeline.cellsWaits_intro cfgs (dats m) 0 0 c fun w s t => by
    have h : lv ((c : Thread nD τ), SemLoc.dma ((cfg0.win w).sem s)) 0 = 0 := if_pos (lv_stage w s)
    show _ ⊢ MayWait (c : Thread nD τ) _ 0 (owedAt c t.val)
    unfold owedAt
    split
    · exact mayWait_Ow₀ c _ (by omega) h
    · exact mayWait_Ow c _ (by omega) _ (by rw [h]; omega)

/-! ## The run -/

def finalA (w : Fin cfg0.W) : Buf (Elt F) ((cfg0.win w).arr.view.loc (c : Thread nD τ)) := (dats m 0 c).arrAt w cfg0.N

set_option maxRecDepth 8000 in
/-- From any memory with zero counters every weakly fair execution ends, and at the end every array is as the proof data
    say and every counter zero. -/
theorem run_main : θ_run defs (onTc (τ := τ) (main (F := F))) (s₀ m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := Ow₀) (howed₀ := fun _ => rfl) (howedN := fun c => Ow_done c (show 32 ≤ 33 by decide))
    (L := Ls) (lv := lv) (hL := Ls_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 : finalA m c 0 = m ((c : Thread nD τ).loc main_arg0) := (dats (F := F) m 0 c).arrAt_in 0 rfl _
theorem finalA_1 : finalA m c 1 = m ((c : Thread nD τ).loc main_arg1) := (dats (F := F) m 0 c).arrAt_in 1 rfl _

/-- The run leaves both arguments as they were and every counter at zero. -/
theorem frame_run : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c 0).trans (finalA_0 m c), (h.1 c 1).trans (finalA_1 m c)⟩, h.2⟩) (run_main m ρ)

end Cert.Exchange
-- ==== Proof.Blocks.lean ====
/-
# What one chunk holds, over the extended reals

A chunk of the result at an index: the two devices' sums of products over their rows.
-/
module

public import Idealize.ShloMosaic.Lib.Pointwise
public import Idealize.ShloMosaic.Lib.Pipeline.ValueKit
public import proofs.«01_k».proof.Proof.Launch

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The four products -/

section Products
variable (X : Vec Ideal S4096x2048 .bf16) (D : Vec Ideal S4096x256 .bf16) (r : Fin 2048) (l : Fin 256)

/-- Column `r` of `X` times column `l` of `D`. -/
def cols : EReal := ∑ k : Fin 4096, (X (ix2 k r) : EReal) * D (ix2 k l)

theorem pay1_at : shapeCast S2048x256 (k0_pay1 X D) shapeCasts_S1x2048x256_S2048x256 (ix2 r l) = cols X D r l := by
  unfold cols; pointwise [k0_pay1]
theorem pay2_at : shapeCast S2048x256 (k0_pay2 X D) shapeCasts_S1x2048x256_S2048x256 (ix2 r l) = cols X D r l := by
  unfold cols; pointwise [k0_pay2]
theorem pay3_at : shapeCast S2048x256 (k0_pay3 X D) shapeCasts_S1x2048x256_S2048x256 (ix2 r l) = cols X D r l := by
  unfold cols; pointwise [k0_pay3]
theorem pay4_at : shapeCast S2048x256 (k0_pay4 X D) shapeCasts_S1x2048x256_S2048x256 (ix2 r l) = cols X D r l := by
  unfold cols; pointwise [k0_pay4]
end Products

/-! ## The operands' blocks at an index -/

theorem idx_0 : ∀ t : Fin grid0.N, win0_0.index t = ![0, 0] := by decide +kernel
theorem idx_1 : ∀ t : Fin grid0.N, win0_1.index t = ![0, min t.val 31] := by decide +kernel

/-- The operands device `d` was given, as extended reals. -/
abbrev xIn (d : Dev nD) (k r : Fin 4096) : EReal := m ((d : Thread nD τ).loc main_arg0) (ix2 k r)
abbrev dyIn (d : Dev nD) (k : Fin 4096) (l : Fin 8192) : EReal := m ((d : Thread nD τ).loc main_arg1) (ix2 k l)

theorem xBlk_at (k : Fin 4096) (r : Fin 4096) : xBlk m c (ix2 k r) = xIn m c k r := by
  unfold xBlk
  blk_ext [iblk, V, idx_0 (pt 0)]
theorem dyBlk_at (j : ℕ) (hj : j < 32) (k : Fin 4096) (l : Fin 256) :
    dyBlk m c j (ix2 k l) = dyIn m c k ⟨256 * j + l.val, by omega⟩ := by
  unfold dyBlk
  have hp : (pt j).val = j := Nat.mod_eq_of_lt (by omega)
  have hi : win0_1.index (pt j) = ![0, j] := by rw [idx_1, hp, Nat.min_eq_left (by omega)]
  blk_ext [iblk, V, hi]

/-- The first and the last columns, at an index. -/
theorem xLo_at (k : Fin 4096) (r : Fin 2048) : xLo m c (ix2 k r) = xIn m c k ⟨r.val, by omega⟩ := by
  rw [← xBlk_at]; unfold xLo
  refine congrArg (xBlk m c) (funext fun a => Fin.ext ?_)
  fin_cases a
  · show 0 + 1 * k.val = k.val; omega
  · show 0 + 1 * r.val = r.val; omega
theorem xHi_at (k : Fin 4096) (r : Fin 2048) : xHi m c (ix2 k r) = xIn m c k ⟨2048 + r.val, by omega⟩ := by
  rw [← xBlk_at]; unfold xHi
  refine congrArg (xBlk m c) (funext fun a => Fin.ext ?_)
  fin_cases a
  · show 0 + 1 * k.val = k.val; omega
  · show 2048 + 1 * r.val = 2048 + r.val; omega

/-! ## A chunk at an index -/

/-- The first of the whole result's rows that device `c` holds. -/
abbrev row (c : Dev nD) : ℕ := 2048 * (c.val / 16)
theorem row_lt (c : Dev nD) (r : Fin 2048) : row c + r.val < 4096 := by
  have := c.isLt; have := r.isLt; simp only [nD, row] at *; omega

/-- Device `d`'s rows' part of the result's row `r` on device `c`, at column `256 j + l`. -/
def share (c d : Dev nD) (j : ℕ) (hj : j < 32) (r : Fin 2048) (l : Fin 256) : EReal :=
  ∑ k : Fin 4096, xIn m d k ⟨row c + r.val, row_lt c r⟩ * dyIn m d k ⟨256 * j + l.val, by omega⟩

theorem cols_lo (d : Dev nD) (h : c.val < 16) (j : ℕ) (hj : j < 32) (r : Fin 2048) (l : Fin 256) :
    cols (xLo m d) (dyBlk m d j) r l = share m c d j hj r l := by
  unfold cols share
  refine Finset.sum_congr rfl fun k _ => ?_
  rw [xLo_at, dyBlk_at m d j hj]
  have e : (⟨r.val, by omega⟩ : Fin 4096) = ⟨row c + r.val, row_lt c r⟩ := Fin.ext (by simp only [row]; omega)
  rw [e]
theorem cols_hi (d : Dev nD) (h : ¬ c.val < 16) (j : ℕ) (hj : j < 32) (r : Fin 2048) (l : Fin 256) :
    cols (xHi m d) (dyBlk m d j) r l = share m c d j hj r l := by
  unfold cols share
  refine Finset.sum_congr rfl fun k _ => ?_
  rw [xHi_at, dyBlk_at m d j hj]
  have e : (⟨2048 + r.val, by omega⟩ : Fin 4096) = ⟨row c + r.val, row_lt c r⟩ := Fin.ext (by
    have := c.isLt; simp only [row, nD] at *; omega)
  rw [e]

/-- Chunk `j` on device `c` is its own rows' part plus its peer's. -/
theorem outAt_at (j : ℕ) (hj : j < 32) (r : Fin 2048) (l : Fin 256) :
    outAt m c j (ix2 r l) = share m c c j hj r l + share m c (peer c) j hj r l := by
  show (keepPart m c j (ix2 r l) : EReal) + (sentPart m (peer c) j (ix2 r l) : EReal) = _
  unfold keepPart sentPart
  by_cases h : c.val < 16
  · rw [if_pos h, if_neg (fun h' => (peer_lo c).mp h' h), pay2_at, pay3_at, cols_lo m c c h j hj, cols_lo m c (peer c) h j hj]
  · rw [if_neg h, if_pos ((peer_lo c).mpr h), pay4_at, pay1_at, cols_hi m c c h j hj, cols_hi m c (peer c) h j hj]

/-! ## The result's array -/

theorem idx_2 : ∀ t : Fin grid0.N, win0_2.index t = ![0, t.val - 1] := by decide +kernel
theorem flush_2 : ∀ t : Fin grid0.N, (cfg0.win 2).flush t = true → 1 ≤ t.val := by decide +kernel

/-- After the run the result's array on device `c` holds, at every index, its own rows' part plus its peer's. -/
theorem final_eq (G : Buf (Elt Ideal) ((c : Thread nD τ).loc main_v1))
    (hG : ∀ (j : ℕ) (hj : j < 32) (r : Fin 2048) (l : Fin 256),
      (G (ix2 r ⟨256 * j + l.val, by omega⟩) : EReal) = share m c c j hj r l + share m c (peer c) j hj r l) :
    finalA m c 2 = G := by
  refine (dats m 0 c).arrAt_eq_of_covers 2 G (by decide +kernel) fun t hf y => ?_
  have h1 := flush_2 t hf
  have ht : t.val < 33 := lt_of_lt_of_eq t.isLt cfg0_N
  blk_simp
  obtain ⟨r, l, rfl⟩ : ∃ (r : Fin 2048) (l : Fin 256), y = ix2 r l := ⟨y 0, y 1, eq_ix2 y⟩
  have hj : t.val - 1 < 32 := by omega
  have hi : win0_2.index t = ![0, t.val - 1] := idx_2 t
  have he : (win0_2.blk t).view.emb (ix2 r l) = ix2 r ⟨256 * (t.val - 1) + l.val, by omega⟩ := by
    blk_ext [hi]
  rw [he]
  exact (outAt_at m c (t.val - 1) hj r l).trans (hG (t.val - 1) hj r l).symm

end Cert.Exchange
-- ==== Proof.Value.lean ====
/-
# The result against the reference's product

The reference's product at an index is the sum over all rows, and so the sum of the two devices' parts.
-/
module

public import proofs.«01_k».proof.Proof.Blocks
public import proofs.«01_k».proof.Proof.Gen.ReferenceIdeal.Run
public import Idealize.ShloMosaic.Lib.Layout

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The cuts name axes of the mesh. -/
theorem cuts_ok : ∀ b : Fin 2, ∀ i ∈ (![[0], []] : Fin 2 → List ℕ) b, 0 < [2, 4, 4].getD i 0 := by decide
/-- The first operand is two blocks of 4096 rows. -/
theorem tiles_x : Layout.TilesN ⟨2, ![4096, 4096]⟩ ⟨2, ![8192, 4096]⟩ fun b => Layout.cutSize [2, 4, 4] ((![[0], []] : Fin 2 → List ℕ) b) := by decide
/-- So is the second operand. -/
theorem tiles_dy : Layout.TilesN ⟨2, ![4096, 8192]⟩ ⟨2, ![8192, 8192]⟩ fun b => Layout.cutSize [2, 4, 4] ((![[0], []] : Fin 2 → List ℕ) b) := by decide
/-- The result is two blocks of 2048 rows. -/
theorem tiles_out : Layout.TilesN ⟨2, ![2048, 8192]⟩ ⟨2, ![4096, 8192]⟩ fun b => Layout.cutSize [2, 4, 4] ((![[0], []] : Fin 2 → List ℕ) b) := by decide

/-- The block device `c` holds. -/
abbrev blockOf (c : Dev nD) : (b : Fin 2) → Fin (Layout.cutSize [2, 4, 4] ((![[0], []] : Fin 2 → List ℕ) b)) := Layout.meshBlock [2, 4, 4] ![[0], []] c cuts_ok

section Whole
variable (X : FVec Ideal Cert.ReferenceIdeal.S8192x4096 .bf16) (Y : FVec Ideal Cert.ReferenceIdeal.S8192x8192 .bf16)

/-- The reference's result on the whole operands. -/
def refOut : FVec Ideal Cert.ReferenceIdeal.S4096x8192 .f32 :=
  Host.dotGeneral Cert.ReferenceIdeal.dot_S4096x8192_S8192x8192_S4096x8192_1_0_0_1_n_n none
    (transpose Cert.ReferenceIdeal.S4096x8192 [1, 0] X Cert.ReferenceIdeal.Gen.facts.transposes_S8192x4096_S4096x8192_1_0) Y

/-- At row `r`, column `l`, it is column `r` of the first operand times column `l` of the second. -/
theorem refOut_at (r : Fin 4096) (l : Fin 8192) : (refOut X Y (ix2 r l) : EReal) = ∑ k : Fin 8192, (X (ix2 k r) : EReal) * Y (ix2 k l) := by
  pointwise [refOut]

variable (m : (ℓ : Loc nD τ sig) → Buf (Elt Ideal) ℓ)
  (hX : ∀ c : Dev nD, m ((c : Thread nD τ).loc main_arg0) = Layout.blockN ⟨2, ![4096, 4096]⟩ ⟨2, ![8192, 4096]⟩ (blockOf c) X tiles_x)
  (hY : ∀ c : Dev nD, m ((c : Thread nD τ).loc main_arg1) = Layout.blockN ⟨2, ![4096, 8192]⟩ ⟨2, ![8192, 8192]⟩ (blockOf c) Y tiles_dy)

/-- The block's number along the rows is the device's x coordinate. -/
theorem block_row : ∀ c : Dev nD, (blockOf c 0).val = c.val / 16 := by decide
/-- Along the columns there is one block. -/
theorem block_col : ∀ c : Dev nD, (blockOf c 1).val = 0 := by decide

/-- A block's element at `(k, r)` is the whole array's `n` rows further down per block. -/
theorem block_at {α : Type} {n N w : ℕ} (h : Layout.TilesN ⟨2, ![n, w]⟩ ⟨2, ![N, w]⟩ fun b => Layout.cutSize [2, 4, 4] (![[0], []] b))
    (c : Dev nD) (v : (⟨2, ![N, w]⟩ : Shape).Idx → α) (k : Fin n) (r : Fin w) (hk : n * (c.val / 16) + k.val < N) :
    Layout.blockN ⟨2, ![n, w]⟩ ⟨2, ![N, w]⟩ (blockOf c) v h (ix2 k r) = v (ix2 ⟨n * (c.val / 16) + k.val, hk⟩ r) := by
  rw [Layout.blockN_apply]
  refine congrArg v (funext fun a => Fin.ext ?_)
  rw [Layout.TilesN.idx_val]
  fin_cases a
  · show (blockOf c 0).val * n + k.val = n * (c.val / 16) + k.val
    rw [block_row, Nat.mul_comm]
  · show (blockOf c 1).val * w + r.val = r.val
    rw [block_col, Nat.zero_mul, Nat.zero_add]

/-- A row of a device's block is a row of the whole operand. -/
theorem row_in (c : Dev nD) (k : Fin 4096) : 4096 * (c.val / 16) + k.val < 8192 := by
  have := c.isLt; simp only [nD] at *; omega

include hX hY in
/-- A device's part is the reference's sum over the rows the device was given. -/
theorem share_eq_rows (c d : Dev nD) (j : ℕ) (hj : j < 32) (r : Fin 2048) (l : Fin 256) :
    share m c d j hj r l = ∑ k : Fin 4096, (X (ix2 ⟨4096 * (d.val / 16) + k.val, row_in d k⟩ ⟨row c + r.val, row_lt c r⟩) : EReal)
      * Y (ix2 ⟨4096 * (d.val / 16) + k.val, row_in d k⟩ ⟨256 * j + l.val, by omega⟩) := by
  unfold share xIn dyIn
  refine Finset.sum_congr rfl fun k _ => ?_
  rw [hX d, hY d]
  refine congrArg₂ (· * ·) ?_ ?_
  · exact block_at _ d X k _ (row_in d k)
  · exact block_at _ d Y k _ (row_in d k)

include hX hY in
/-- Both parts together are the reference's result. -/
theorem shares_eq (c : Dev nD) (j : ℕ) (hj : j < 32) (r : Fin 2048) (l : Fin 256) :
    share m c c j hj r l + share m c (peer c) j hj r l = refOut X Y (ix2 ⟨row c + r.val, row_lt c r⟩ ⟨256 * j + l.val, by omega⟩) := by
  rw [refOut_at, Fin.sum_univ_two_halves 4096 4096 rfl, share_eq_rows X Y m hX hY, share_eq_rows X Y m hX hY]
  have hlt := c.isLt
  have lo (d : Dev nD) (hd : d.val < 16) (k : Fin 4096) : (⟨4096 * (d.val / 16) + k.val, row_in d k⟩ : Fin 8192) = ⟨k.val, by omega⟩ := Fin.ext (by
    show 4096 * (d.val / 16) + k.val = k.val; omega)
  have hi (d : Dev nD) (hd : ¬ d.val < 16) (k : Fin 4096) : (⟨4096 * (d.val / 16) + k.val, row_in d k⟩ : Fin 8192) = ⟨4096 + k.val, by omega⟩ := Fin.ext (by
    have := d.isLt; simp only [nD] at *; omega)
  by_cases h : c.val < 16
  · simp only [lo c h, hi (peer c) fun h' => (peer_lo c).mp h' h]
  · simp only [hi c h, lo (peer c) ((peer_lo c).mpr h)]
    exact add_comm _ _

include hX hY in
/-- After the run a device's result is its block of the reference's. -/
theorem final_block (c : Dev nD) :
    finalA m c 2 = Layout.blockN ⟨2, ![2048, 8192]⟩ ⟨2, ![4096, 8192]⟩ (blockOf c) (refOut X Y) tiles_out :=
  final_eq m c _ fun j hj r l => (block_at _ c (refOut X Y) r _ (row_lt c r)).trans (shares_eq X Y m hX hY c j hj r l).symm

end Whole

end Cert.Exchange
-- ==== Proof.lean ====
/-
# The five claims

Both kernels run to the end with their arguments unchanged and every counter zero, so does the reference, the ideal
kernel is the kernel over the extended reals, and it computes the reference's function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- From any memory every run of the idealized kernel ends, with its arguments unchanged and every counter zero. -/
theorem frame_kernelIdeal : Cert.quiescent_KernelIdeal := fun m ρ _ => Cert.Exchange.frame_run (F := Ideal) m ρ

/-- The two body tables are the same: they differ in name only. -/
theorem defs₀_eq : Cert.Kernel.defs₀ (F := Bits) = Cert.KernelIdeal.defs₀ (F := Bits) := by
  refine congrArg Defs.onTc (funext fun l => funext fun x => ?_)
  obtain ⟨_ | n, h⟩ := l
  · rfl
  · exact absurd h (Nat.not_lt.2 (Nat.le_add_left _ _))
/-- So are the tables with the pipeline's own entries added. -/
theorem defs_eq : Cert.Kernel.defs (F := Bits) = Cert.KernelIdeal.defs (F := Bits) := congrArg (Pipeline.defs Cert.Kernel.pcfgs) defs₀_eq

/-- The same of the kernel as printed, which is the same program read at bits. -/
theorem frame_kernel : Cert.quiescent_Kernel := fun m ρ _ => by
  rw [defs_eq]
  exact Cert.Exchange.frame_run (F := Bits) m ρ

/-- The reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of the rows of the reference's product, and both programs
    leave their arguments as they were. -/
theorem algebraic : Cert.algebraic_KernelIdeal_ReferenceIdeal := fun m g m' g' _ hin =>
  ⟨Cert.Exchange.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c 2).trans (Cert.Exchange.final_block _ _ m (fun c => (hin c).1) (fun c => (hin c).2) c),
        (h.1 c 0).trans (Cert.Exchange.finalA_0 m c), (h.1 c 1).trans (Cert.Exchange.finalA_1 m c)⟩)
      (Cert.Exchange.run_main (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
